-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x5120 : Shape := ⟨3, ![192, 1, 5120]⟩
abbrev S18944x2560 : Shape := ⟨2, ![18944, 2560]⟩
abbrev S18944x160 : Shape := ⟨2, ![18944, 160]⟩
abbrev S192x5120 : Shape := ⟨2, ![192, 5120]⟩
abbrev S192x1 : Shape := ⟨2, ![192, 1]⟩
abbrev S512x2560 : Shape := ⟨2, ![512, 2560]⟩
abbrev S512x160 : Shape := ⟨2, ![512, 160]⟩
abbrev S192x128 : Shape := ⟨2, ![192, 128]⟩
abbrev S160x512 : Shape := ⟨2, ![160, 512]⟩
abbrev S192x512 : Shape := ⟨2, ![192, 512]⟩
abbrev S512x128 : Shape := ⟨2, ![512, 128]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S8x512 : Shape := ⟨2, ![8, 512]⟩
abbrev S8x32x512 : Shape := ⟨3, ![8, 32, 512]⟩
abbrev S8x1x512 : Shape := ⟨3, ![8, 1, 512]⟩
abbrev S192x256 : Shape := ⟨2, ![192, 256]⟩
abbrev S192 : Shape := ⟨1, ![192]⟩

abbrev nBuf : Space → Nat
  | .hbm => 7
  | .vmem => 11
  | .smem => 0
  | _ => 0

abbrev bufTy : (tb : Table) → Fin (tcTables nBuf tb) → BufTy
  | .hbm, ⟨0, _⟩ => ⟨S192x1x5120, .bf16⟩
  | .hbm, ⟨1, _⟩ => ⟨S18944x2560, .i8⟩
  | .hbm, ⟨2, _⟩ => ⟨S18944x160, .bf16⟩
  | .hbm, ⟨3, _⟩ => ⟨S192x5120, .bf16⟩
  | .hbm, ⟨4, _⟩ => ⟨S192x1, .i32⟩
  | .hbm, ⟨5, _⟩ => ⟨S192x1, .f32⟩
  | .hbm, ⟨6, _⟩ => ⟨S192x1, .f32⟩
  | .local _ .vmem, ⟨0, _⟩ => ⟨S192x5120, .bf16⟩
  | .local _ .vmem, ⟨1, _⟩ => ⟨S512x2560, .i8⟩
  | .local _ .vmem, ⟨2, _⟩ => ⟨S512x2560, .i8⟩
  | .local _ .vmem, ⟨3, _⟩ => ⟨S512x160, .bf16⟩
  | .local _ .vmem, ⟨4, _⟩ => ⟨S512x160, .bf16⟩
  | .local _ .vmem, ⟨5, _⟩ => ⟨S192x1, .i32⟩
  | .local _ .vmem, ⟨6, _⟩ => ⟨S192x1, .f32⟩
  | .local _ .vmem, ⟨7, _⟩ => ⟨S192x1, .f32⟩
  | .local _ .vmem, ⟨8, _⟩ => ⟨S192x128, .f32⟩
  | .local _ .vmem, ⟨9, _⟩ => ⟨S192x128, .f32⟩
  | .local _ .vmem, ⟨10, _⟩ => ⟨S192x128, .i32⟩
  | _, _ => ⟨S192x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![37], ![false]⟩

def k0_cond2 (i : grid0.Coords) : BitVec 1 :=
  let arg0 : BitVec 32 := BitVec.ofNat 32 (i 0).val
  let c36_i32 : BitVec 32 := 36#32
  let v554 : BitVec 1 := Scalar.cmpi .eq arg0 c36_i32
  let v555 : BitVec 32 := Scalar.extui v554
  let c0_i32_147 : BitVec 32 := 0#32
  let v556 : BitVec 1 := Scalar.cmpi .ne v555 c0_i32_147
  v556

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x160 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S192x1x5120 : Shape := ⟨3, ![192, 1, 5120]⟩
abbrev S18944x2560 : Shape := ⟨2, ![18944, 2560]⟩
abbrev S18944x160 : Shape := ⟨2, ![18944, 160]⟩
abbrev S18944x160x16 : Shape := ⟨3, ![18944, 160, 16]⟩
abbrev S_ : Shape := ⟨0, ![]⟩
abbrev S18944x160x1 : Shape := ⟨3, ![18944, 160, 1]⟩
abbrev S192x2560x2 : Shape := ⟨3, ![192, 2560, 2]⟩
abbrev S192x2560x1 : Shape := ⟨3, ![192, 2560, 1]⟩
abbrev S192x2560 : Shape := ⟨2, ![192, 2560]⟩
abbrev S192x18944 : Shape := ⟨2, ![192, 18944]⟩
abbrev S192 : Shape := ⟨1, ![192]⟩
abbrev S192x1 : Shape := ⟨2, ![192, 1]⟩

abbrev nBuf : Space → Nat
  | .hbm => 56
  | .vmem => 0
  | .smem => 0
  | _ => 0

abbrev bufTy : (tb : Table) → Fin (tcTables nBuf tb) → BufTy
  | .hbm, ⟨0, _⟩ => ⟨S192x1x5120, .bf16⟩
  | .hbm, ⟨1, _⟩ => ⟨S18944x2560, .i8⟩
  | .hbm, ⟨2, _⟩ => ⟨S18944x160, .bf16⟩
  | .hbm, ⟨3, _⟩ => ⟨S18944x2560, .i32⟩
  | .hbm, ⟨4, _⟩ => ⟨S18944x160x16, .i32⟩
  | .hbm, ⟨5, _⟩ => ⟨S_, .i32⟩
  | .hbm, ⟨6, _⟩ => ⟨S18944x160x16, .i32⟩
  | .hbm, ⟨7, _⟩ => ⟨S18944x160x16, .i32⟩
  | .hbm, ⟨8, _⟩ => ⟨S18944x160x16, .bf16⟩
  | .hbm, ⟨9, _⟩ => ⟨S_, .bf16⟩
  | .hbm, ⟨10, _⟩ => ⟨S18944x160x16, .bf16⟩
  | .hbm, ⟨11, _⟩ => ⟨S18944x160x16, .bf16⟩
  | .hbm, ⟨12, _⟩ => ⟨S18944x160x1, .bf16⟩
  | .hbm, ⟨13, _⟩ => ⟨S18944x160x16, .bf16⟩
  | .hbm, ⟨14, _⟩ => ⟨S18944x160x16, .bf16⟩
  | .hbm, ⟨15, _⟩ => ⟨S18944x2560, .bf16⟩
  | .hbm, ⟨16, _⟩ => ⟨S_, .i32⟩
  | .hbm, ⟨17, _⟩ => ⟨S18944x160x16, .i32⟩
  | .hbm, ⟨18, _⟩ => ⟨S18944x160x16, .i32⟩
  | .hbm, ⟨19, _⟩ => ⟨S18944x160x16, .bf16⟩
  | .hbm, ⟨20, _⟩ => ⟨S_, .bf16⟩
  | .hbm, ⟨21, _⟩ => ⟨S18944x160x16, .bf16⟩
  | .hbm, ⟨22, _⟩ => ⟨S18944x160x16, .bf16⟩
  | .hbm, ⟨23, _⟩ => ⟨S18944x160x1, .bf16⟩
  | .hbm, ⟨24, _⟩ => ⟨S18944x160x16, .bf16⟩
  | .hbm, ⟨25, _⟩ => ⟨S18944x160x16, .bf16⟩
  | .hbm, ⟨26, _⟩ => ⟨S18944x2560, .bf16⟩
  | .hbm, ⟨27, _⟩ => ⟨S192x2560x2, .bf16⟩
  | .hbm, ⟨28, _⟩ => ⟨S192x2560x1, .bf16⟩
  | .hbm, ⟨29, _⟩ => ⟨S192x2560, .bf16⟩
  | .hbm, ⟨30, _⟩ => ⟨S192x2560x1, .bf16⟩
  | .hbm, ⟨31, _⟩ => ⟨S192x2560, .bf16⟩
  | .hbm, ⟨32, _⟩ => ⟨S192x18944, .f32⟩
  | .hbm, ⟨33, _⟩ => ⟨S192x18944, .f32⟩
  | .hbm, ⟨34, _⟩ => ⟨S192x18944, .f32⟩
  | .hbm, ⟨35, _⟩ => ⟨S_, .f32⟩
  | .hbm, ⟨36, _⟩ => ⟨S192, .f32⟩
  | .hbm, ⟨37, _⟩ => ⟨S192x18944, .i32⟩
  | .hbm, ⟨38, _⟩ => ⟨S_, .f32⟩
  | .hbm, ⟨39, _⟩ => ⟨S_, .i32⟩
  | .hbm, ⟨40, _⟩ => ⟨S192, .f32⟩
  | .hbm, ⟨41, _⟩ => ⟨S192, .i32⟩
  | .hbm, ⟨42, _⟩ => ⟨S192x18944, .i32⟩
  | .hbm, ⟨43, _⟩ => ⟨S192x1, .i32⟩
  | .hbm, ⟨44, _⟩ => ⟨S192x18944, .i32⟩
  | .hbm, ⟨45, _⟩ => ⟨S192x18944, .i1⟩
  | .hbm, ⟨46, _⟩ => ⟨S_, .f32⟩
  | .hbm, ⟨47, _⟩ => ⟨S_, .f32⟩
  | .hbm, ⟨48, _⟩ => ⟨S192x18944, .f32⟩
  | .hbm, ⟨49, _⟩ => ⟨S192x18944, .f32⟩
  | .hbm, ⟨50, _⟩ => ⟨S_, .f32⟩
  | .hbm, ⟨51, _⟩ => ⟨S192, .f32⟩
  | .hbm, ⟨52, _⟩ => ⟨S192x1, .i32⟩
  | .hbm, ⟨53, _⟩ => ⟨S192x1, .f32⟩
  | .hbm, ⟨54, _⟩ => ⟨S192, .f32⟩
  | .hbm, ⟨55, _⟩ => ⟨S192x1, .f32⟩
  | _, _ => ⟨S192x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_call0_v0 : Ref sig .tc := ⟨.hbm, 37, rfl⟩
abbrev main_call0_cst : Ref sig .tc := ⟨.hbm, 38, rfl⟩
abbrev main_call0_c : Ref sig .tc := ⟨.hbm, 39, rfl⟩
abbrev main_call0_v1_0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.RefRun.lean ====
/-
  The run of the reference program, `Cert.ReferenceIdeal`: fifty-three whole-array operations over buffers, no kernel.
  For any float values, from any memory with zero counters, every fair execution terminates, the three results hold the
  arrays named below, as functions of the three arguments, and the arguments are kept.

  The operations come in three groups.  The first computes the logits from the activations, the packed codes and the
  scales.  The second computes, from the logits alone, the largest one of each row and where it is first reached.  The
  third takes the largest one elsewhere and writes the results.
-/
module

public import Idealize.ShloMosaic.Lib.StableHlo.Run
public import proofs.«01_k».proof.Proof.Gen.ReferenceIdeal

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! ### The arrays -/

/-- The packed bytes, widened to 32 bits and seen as 160 groups of 16 per output row. -/
def words (w : IVec S18944x2560 8) : IVec S18944x160x16 32 :=
  shapeCast S18944x160x16 (extui 32 w natLt_8_32) shapeCasts_S18944x2560_S18944x160x16

/-- The weight matrix of one half of the codes: eight subtracted from each code, times the scale of its group. -/
def weights (q : IVec S18944x160x16 32) (s : FVec F S18944x160 .bf16) : FVec F S18944x2560 .bf16 :=
  shapeCast S18944x2560
    (mulf (subf (sitofp .bf16 q) (broadcastInDim S18944x160x16 ![] bcast_S_S18944x160x16 (constant S_ .bf16 0x4100#16)))
      (broadcastInDim S18944x160x16 ![0, 1, 2] bcast_S18944x160x1_S18944x160x16_0_1_2
        (broadcastInDim S18944x160x1 ![0, 1] bcast_S18944x160_S18944x160x1_0_1 s)))
    shapeCasts_S18944x160x16_S18944x2560

/-- The low half of each byte. -/
def low (w : IVec S18944x2560 8) : IVec S18944x160x16 32 :=
  andi (words w) (broadcastInDim S18944x160x16 ![] bcast_S_S18944x160x16 (constantI S_ 32 15#32))

/-- The high half of each byte. -/
def high (w : IVec S18944x2560 8) : IVec S18944x160x16 32 :=
  Host.shrsi (words w) (broadcastInDim S18944x160x16 ![] bcast_S_S18944x160x16 (constantI S_ 32 4#32))

/-- The activations, in pairs of neighbours. -/
def pairs (x : FVec F S192x1x5120 .bf16) : FVec F S192x2560x2 .bf16 :=
  shapeCast S192x2560x2 x shapeCasts_S192x1x5120_S192x2560x2

/-- The activations at even places. -/
def evens (x : FVec F S192x1x5120 .bf16) : FVec F S192x2560 .bf16 :=
  shapeCast S192x2560 (extractStridedSlice S192x2560x1 ![0, 0, 0] (pairs x) slices_S192x2560x2_S192x2560x1_0_0_0)
    shapeCasts_S192x2560x1_S192x2560

/-- The activations at odd places. -/
def odds (x : FVec F S192x1x5120 .bf16) : FVec F S192x2560 .bf16 :=
  shapeCast S192x2560 (extractStridedSlice S192x2560x1 ![0, 0, 1] (pairs x) slices_S192x2560x2_S192x2560x1_0_0_1)
    shapeCasts_S192x2560x1_S192x2560

/-- The logits: even places against the low codes plus odd places against the high ones. -/
def logits (x : FVec F S192x1x5120 .bf16) (w : IVec S18944x2560 8) (s : FVec F S18944x160 .bf16) :
    FVec F S192x18944 .f32 :=
  addf (Host.dotGeneral dot_S192x2560_S18944x2560_S192x18944_1_1_0_0_n_n none (evens x) (weights (low w) s))
    (Host.dotGeneral dot_S192x2560_S18944x2560_S192x18944_1_1_0_0_n_n none (odds x) (weights (high w) s))

/-- The largest entry of each row. -/
def top (l : FVec F S192x18944 .f32) : FVec F S192 .f32 :=
  Host.reduce FloatOps.maximumf l (constant S_ .f32 0xFF800000#32) reducesTo_S192x18944_S192_d1 h_S_

/-- The places a reduction of values and places gives, for arrays of any shapes. -/
def places {s t u : Shape} {axes : List (Fin s.rank)} (x : FVec F s .f32) (y : IVec s 32) (ix : FVec F u .f32) (iy : IVec u 32)
    (h : s.ReducesTo axes t) (hu : 0 < u.numel) : IVec t 32 := fun j =>
  (Host.argReduce (reducer_argmax_f32_i32 (F := F)) x y ix iy h hu j).2

/-- Where each row first reaches its largest entry. -/
def tok (l : FVec F S192x18944 .f32) : IVec S192 32 :=
  places l (iotaInDim S192x18944 32 1) (constant S_ .f32 0xFF800000#32) (constantI S_ 32 0#32) reducesTo_S192x18944_S192_d1 h_S_

/-- The logits with one place of each row replaced by the least float. -/
def masked (t : IVec S192 32) (l : FVec F S192x18944 .f32) : FVec F S192x18944 .f32 :=
  select (cmpi .eq (iotaInDim S192x18944 32 1)
      (broadcastInDim S192x18944 ![0, 1] bcast_S192x1_S192x18944_0_1
        (broadcastInDim S192x1 ![0] bcast_S192_S192x1_0 t)))
    (broadcastInDim S192x18944 ![] bcast_S_S192x18944 (constant S_ .f32 0xFF800000#32)) l

/-- The three results: the token, -/
def out0 (l : FVec F S192x18944 .f32) : IVec S192x1 32 := shapeCast S192x1 (tok l) shapeCasts_S192_S192x1

/-- the margin, -/
def out1 (l : FVec F S192x18944 .f32) : FVec F S192x1 .f32 :=
  shapeCast S192x1 (subf (top l) (top (masked (tok l) l))) shapeCasts_S192_S192x1

/-- and the largest logit. -/
def out2 (l : FVec F S192x18944 .f32) : FVec F S192x1 .f32 := shapeCast S192x1 (top l) shapeCasts_S192_S192x1

/-! ### The operations -/

/-- From the arguments to the logits. -/
abbrev opsA : List (HloOp τ sig (Elt F)) :=
  [ unary main_arg1 main_v0 (extui 32 · natLt_8_32),
    reshape main_v0 main_v1 rfl shapeCasts_S18944x2560_S18944x160x16,
    nullary main_c (constantI S_ 32 15#32),
    unary main_c main_v2 (broadcastInDim S18944x160x16 ![] bcast_S_S18944x160x16),
    binary main_v1 main_v2 main_v3 andi,
    unary main_v3 main_v4 (sitofp .bf16),
    nullary main_cst (constant S_ .bf16 0x4100#16),
    unary main_cst main_v5 (broadcastInDim S18944x160x16 ![] bcast_S_S18944x160x16),
    binary main_v4 main_v5 main_v6 subf,
    unary main_arg2 main_v7 (broadcastInDim S18944x160x1 ![0, 1] bcast_S18944x160_S18944x160x1_0_1),
    unary main_v7 main_v8 (broadcastInDim S18944x160x16 ![0, 1, 2] bcast_S18944x160x1_S18944x160x16_0_1_2),
    binary main_v6 main_v8 main_v9 mulf,
    reshape main_v9 main_v10 rfl shapeCasts_S18944x160x16_S18944x2560,
    nullary main_c_0 (constantI S_ 32 4#32),
    unary main_c_0 main_v11 (broadcastInDim S18944x160x16 ![] bcast_S_S18944x160x16),
    binary main_v1 main_v11 main_v12 Host.shrsi,
    unary main_v12 main_v13 (sitofp .bf16),
    nullary main_cst_1 (constant S_ .bf16 0x4100#16),
    unary main_cst_1 main_v14 (broadcastInDim S18944x160x16 ![] bcast_S_S18944x160x16),
    binary main_v13 main_v14 main_v15 subf,
    unary main_arg2 main_v16 (broadcastInDim S18944x160x1 ![0, 1] bcast_S18944x160_S18944x160x1_0_1),
    unary main_v16 main_v17 (broadcastInDim S18944x160x16 ![0, 1, 2] bcast_S18944x160x1_S18944x160x16_0_1_2),
    binary main_v15 main_v17 main_v18 mulf,
    reshape main_v18 main_v19 rfl shapeCasts_S18944x160x16_S18944x2560,
    reshape main_arg0 main_v20 rfl shapeCasts_S192x1x5120_S192x2560x2,
    unary main_v20 main_v21 (extractStridedSlice S192x2560x1 ![0, 0, 0] · slices_S192x2560x2_S192x2560x1_0_0_0),
    reshape main_v21 main_v22 rfl shapeCasts_S192x2560x1_S192x2560,
    unary main_v20 main_v23 (extractStridedSlice S192x2560x1 ![0, 0, 1] · slices_S192x2560x2_S192x2560x1_0_0_1),
    reshape main_v23 main_v24 rfl shapeCasts_S192x2560x1_S192x2560,
    binary main_v22 main_v10 main_v25 (fun l r => Host.dotGeneral dot_S192x2560_S18944x2560_S192x18944_1_1_0_0_n_n none l r),
    binary main_v24 main_v19 main_v26 (fun l r => Host.dotGeneral dot_S192x2560_S18944x2560_S192x18944_1_1_0_0_n_n none l r),
    binary main_v25 main_v26 main_v27 addf ]

/-- From the logits to their maxima and the tokens. -/
abbrev opsB : List (HloOp τ sig (Elt F)) :=
  [ nullary main_cst_2 (constant S_ .f32 0xFF800000#32),
    binary main_v27 main_cst_2 main_v28 (fun x v => Host.reduce FloatOps.maximumf x v reducesTo_S192x18944_S192_d1 h_S_),
    TRef.nullary main_call0.v0 (iotaInDim S192x18944 32 1),
    TRef.nullary main_call0.cst (constant S_ .f32 0xFF800000#32),
    TRef.nullary main_call0.c (constantI S_ 32 0#32),
    TRef.quaternary (.of main_v27) main_call0.v0 main_call0.cst main_call0.c main_call0.v1_0 (fun x y u v j => (Host.argReduce reducer_argmax_f32_i32 x y u v reducesTo_S192x18944_S192_d1 h_S_ j).1),
    TRef.quaternary (.of main_v27) main_call0.v0 main_call0.cst main_call0.c main_call0.v1_1 (fun x y u v j => (Host.argReduce reducer_argmax_f32_i32 x y u v reducesTo_S192x18944_S192_d1 h_S_ j).2) ]

/-- From the logits, their maxima and the tokens to the results. -/
abbrev opsC : List (HloOp τ sig (Elt F)) :=
  [ nullary main_v30 (iotaInDim S192x18944 32 1),
    unary main_v29 main_v31 (broadcastInDim S192x1 ![0] bcast_S192_S192x1_0),
    unary main_v31 main_v32 (broadcastInDim S192x18944 ![0, 1] bcast_S192x1_S192x18944_0_1),
    binary main_v30 main_v32 main_v33 (cmpi .eq),
    nullary main_cst_3 (constant S_ .f32 0xFF800000#32),
    TRef.unary (.of main_cst_3) main_call1.v0 id,
    TRef.unary main_call1.v0 main_call1.v1 (broadcastInDim S192x18944 ![] bcast_S_S192x18944),
    TRef.ternary (.of main_v33) main_call1.v1 (.of main_v27) main_call1.v2 select,
    nullary main_cst_4 (constant S_ .f32 0xFF800000#32),
    binary main_v34 main_cst_4 main_v35 (fun x v => Host.reduce FloatOps.maximumf x v reducesTo_S192x18944_S192_d1 h_S_),
    reshape main_v29 main_v36 rfl shapeCasts_S192_S192x1,
    reshape main_v28 main_v37 rfl shapeCasts_S192_S192x1,
    binary main_v28 main_v35 main_v38 subf,
    reshape main_v38 main_v39 rfl shapeCasts_S192_S192x1 ]

/-- The program is those operations in order. -/
theorem main_eq (c : Dev nD) : main (F := F) c = seq (opsA ++ (opsB ++ opsC)) := rfl

/-- Every operation touches buffers of the TensorCore only: the first group, -/
theorem opsA_sub : (opsA : List (HloOp τ sig (Elt F))).Forall fun op => op.bufs ⊆ tcRefs τ sig :=
  ⟨unary_bufs_sub .., reshape_bufs_sub .., nullary_bufs_sub .., unary_bufs_sub .., binary_bufs_sub ..,
    unary_bufs_sub .., nullary_bufs_sub .., unary_bufs_sub .., binary_bufs_sub .., unary_bufs_sub ..,
    unary_bufs_sub .., binary_bufs_sub .., reshape_bufs_sub .., nullary_bufs_sub .., unary_bufs_sub ..,
    binary_bufs_sub .., unary_bufs_sub .., nullary_bufs_sub .., unary_bufs_sub .., binary_bufs_sub ..,
    unary_bufs_sub .., unary_bufs_sub .., binary_bufs_sub .., reshape_bufs_sub .., reshape_bufs_sub ..,
    unary_bufs_sub .., reshape_bufs_sub .., unary_bufs_sub .., reshape_bufs_sub .., binary_bufs_sub ..,
    binary_bufs_sub .., binary_bufs_sub ..⟩

/-- the second group, -/
theorem opsB_sub : (opsB : List (HloOp τ sig (Elt F))).Forall fun op => op.bufs ⊆ tcRefs τ sig :=
  ⟨nullary_bufs_sub .., binary_bufs_sub .., nullary_bufs_sub .., nullary_bufs_sub .., nullary_bufs_sub ..,
    quaternary_bufs_sub .., quaternary_bufs_sub ..⟩

/-- the third group, -/
theorem opsC_sub : (opsC : List (HloOp τ sig (Elt F))).Forall fun op => op.bufs ⊆ tcRefs τ sig :=
  ⟨nullary_bufs_sub .., unary_bufs_sub .., unary_bufs_sub .., binary_bufs_sub .., nullary_bufs_sub ..,
    unary_bufs_sub .., unary_bufs_sub .., ternary_bufs_sub .., nullary_bufs_sub .., binary_bufs_sub ..,
    reshape_bufs_sub .., reshape_bufs_sub .., binary_bufs_sub .., reshape_bufs_sub ..⟩

/-- and so all. -/
theorem ops_sub : (opsA ++ (opsB ++ opsC) : List (HloOp τ sig (Elt F))).Forall fun op => op.bufs ⊆ tcRefs τ sig :=
  List.forall_append.2 ⟨opsA_sub, List.forall_append.2 ⟨opsB_sub, opsC_sub⟩⟩

/-- Running two groups one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ### What the buffers hold -/

/-- After the first group the buffer of the logits holds them. -/
theorem logits_eq (V : Valuation τ sig (Elt F)) :
    after opsA V (main_v27 : DevRef τ sig)
      = logits (V (main_arg0 : DevRef τ sig)) (V (main_arg1 : DevRef τ sig)) (V (main_arg2 : DevRef τ sig)) := by
  after_results
  rfl

/-- After the second group the maxima are there, -/
theorem top_eq (V : Valuation τ sig (Elt F)) :
    after opsB V (main_v28 : DevRef τ sig) = top (V (main_v27 : DevRef τ sig)) := by
  after_results
  rfl

/-- and the tokens, -/
theorem tok_eq (V : Valuation τ sig (Elt F)) :
    after opsB V (main_v29 : DevRef τ sig) = tok (V (main_v27 : DevRef τ sig)) := by
  after_results
  simp -implicitDefEqProofs only [TRef.ofBuf, TRef.toBuf, cast_eq]
  rfl

/-- and the logits still. -/
theorem kept_eq (V : Valuation τ sig (Elt F)) :
    after opsB V (main_v27 : DevRef τ sig) = V (main_v27 : DevRef τ sig) := by
  after_results

/-- After the third group the first result holds the tokens as a column, -/
theorem out0_eq (V : Valuation τ sig (Elt F)) :
    after opsC V (main_v36 : DevRef τ sig)
      = shapeCast S192x1 (V (main_v29 : DevRef τ sig) : IVec S192 32) shapeCasts_S192_S192x1 := by
  after_results
  rfl

/-- the second one the margins, -/
theorem out1_eq (V : Valuation τ sig (Elt F)) :
    after opsC V (main_v39 : DevRef τ sig)
      = shapeCast S192x1 (subf (V (main_v28 : DevRef τ sig) : FVec F S192 .f32)
          (top (masked (V (main_v29 : DevRef τ sig)) (V (main_v27 : DevRef τ sig))))) shapeCasts_S192_S192x1 := by
  after_results
  simp -implicitDefEqProofs only [TRef.ofBuf, TRef.toBuf, cast_eq]
  rfl

/-- and the third one the largest logits. -/
theorem out2_eq (V : Valuation τ sig (Elt F)) :
    after opsC V (main_v37 : DevRef τ sig)
      = shapeCast S192x1 (V (main_v28 : DevRef τ sig) : FVec F S192 .f32) shapeCasts_S192_S192x1 := by
  after_results
  rfl

/-- No operation writes the first argument, -/
theorem arg0_eq (V : Valuation τ sig (Elt F)) :
    after opsC (after opsB (after opsA V)) (main_arg0 : DevRef τ sig) = V (main_arg0 : DevRef τ sig) := by
  after_results

/-- the second, -/
theorem arg1_eq (V : Valuation τ sig (Elt F)) :
    after opsC (after opsB (after opsA V)) (main_arg1 : DevRef τ sig) = V (main_arg1 : DevRef τ sig) := by
  after_results

/-- or the third. -/
theorem arg2_eq (V : Valuation τ sig (Elt F)) :
    after opsC (after opsB (after opsA V)) (main_arg2 : DevRef τ sig) = V (main_arg2 : DevRef τ sig) := by
  after_results

/-- No buffer of this program is scoped, -/
theorem scopedRefs_eq : (Finset.univ.filter fun b : Ref sig .tc => b.isScoped) = ∅ := by decide

/-- and no semaphore. -/
theorem scopedSems_eq : (Finset.univ.filter fun sm : SemLoc sig => sm.isScoped .tc) = ∅ := by decide

/-- The logits of a memory's arguments. -/
def memLogits (m : (ℓ : Loc nD τ sig) → Buf (Elt F) ℓ) (c : Dev nD) : FVec F S192x18944 .f32 :=
  logits (m ((c.tc : Thread nD τ).loc main_arg0)) (m ((c.tc : Thread nD τ).loc main_arg1))
    (m ((c.tc : Thread nD τ).loc main_arg2))

/-- From any memory with zero counters every fair execution terminates, the three results holding the token, the margin
    and the largest value of the logits, and the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = out0 (memLogits m c)
        ∧ r.2.mem ((c.tc : Thread nD τ).loc main_v39) = out1 (memLogits m c)
        ∧ r.2.mem ((c.tc : Thread nD τ).loc main_v37) = out2 (memLogits m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono
    (fun _ h c =>
      have e : ∀ b : Ref sig .tc, _ := fun b => (h c b).trans ((congrFun (after_append opsA (opsB ++ opsC) _) _).trans
        (congrFun (after_append opsB opsC _) _))
      have el := (kept_eq _).trans (logits_eq _)
      have et := (top_eq _).trans (congrArg top (logits_eq _))
      have ek := (tok_eq _).trans (congrArg tok (logits_eq _))
      ⟨(e main_v36).trans ((out0_eq _).trans (congrArg (shapeCast S192x1 · shapeCasts_S192_S192x1) ek)),
        (e main_v39).trans ((out1_eq _).trans (by rw [el, et, ek]; rfl)),
        (e main_v37).trans ((out2_eq _).trans (congrArg (shapeCast S192x1 · shapeCasts_S192_S192x1) et)),
        (e main_arg0).trans (arg0_eq _), (e main_arg1).trans (arg1_eq _), (e main_arg2).trans (arg2_eq _)⟩)
    (run_seq scopedRefs_eq scopedSems_eq defs main (fun _ => opsA ++ (opsB ++ opsC)) main_eq (fun _ => ops_sub) m ρ)

end Cert.ReferenceIdeal.Run
-- ==== Proof.Logits.lean ====
/-
  THE MATHEMATICS BOTH PROGRAMS COMPUTE: packed 4-bit codes, group scales and the logits they give, with indices natural
  numbers (each read modulo its extent where an array is read).
-/
module

public import Idealize.ShloMosaic.Lib.Pipeline.Value
public import Idealize.ShloMosaic.Lib.ValueIdx
public import Idealize.ShloMosaic.PureOps.Ideal.Laws
public import Mathlib.Algebra.BigOperators.Intervals

@[expose] public section

noncomputable section

open Idealize.ShloMosaic Idealize.ShloMosaic.ValueIdx

namespace Cert.Logits

/-- Nibble `h % 2` of a byte: the low one for an even `h`, the high one for an odd `h`. -/
def nibble (b : BitVec 8) (h : ℕ) : ℕ := if h % 2 = 0 then b.toNat % 16 else b.toNat / 16

/-- The signed code a nibble stands for, as a value: the nibble less 8. -/
def code (b : BitVec 8) (h : ℕ) : EReal := (((nibble b h : ℤ) - 8 : ℤ) : ℝ)

/-- One term of a logit: the activation at column `d` times the scaled code of column `d`. -/
def term (x : ℕ → EReal) (w : ℕ → BitVec 8) (s : ℕ → EReal) (d : ℕ) : EReal := x d * (code (w (d / 2)) d * s (d / 32))

/-- One logit: the sum of its 5120 terms. -/
def logit (x : ℕ → EReal) (w : ℕ → BitVec 8) (s : ℕ → EReal) : EReal := ∑ d ∈ Finset.range 5120, term x w s d

/-- A sum over `2 n` numbers is the sum over the even ones plus the sum over the odd ones. -/
theorem sum_even_add_odd (f : ℕ → EReal) (n : ℕ) :
    ∑ b ∈ Finset.range n, f (2 * b) + ∑ b ∈ Finset.range n, f (2 * b + 1) = ∑ d ∈ Finset.range (2 * n), f d := by
  induction n with
  | zero => simp
  | succ n ih =>
    rw [show 2 * (n + 1) = 2 * n + 1 + 1 by ring, Finset.sum_range_succ, Finset.sum_range_succ, Finset.sum_range_succ _ (2 * n + 1),
      Finset.sum_range_succ _ (2 * n), ← ih]
    abel

/-- Even and odd columns summed apart give the logit. -/
theorem logit_eq_even_add_odd (x : ℕ → EReal) (w : ℕ → BitVec 8) (s : ℕ → EReal) :
    ∑ b ∈ Finset.range 2560, term x w s (2 * b) + ∑ b ∈ Finset.range 2560, term x w s (2 * b + 1) = logit x w s :=
  sum_even_add_odd _ 2560

/-- The row-major position of a rank-2 index. -/
theorem rowMajor2 {a b : ℕ} (i : Fin a) (j : Fin b) : ((⟨2, ![a, b]⟩ : Shape).rowMajor (ix2 i j)).val = i.val * b + j.val := by
  show (Shape.rowMajorPi _ _).val = _
  rw [Shape.rowMajorPi_succ_val, Shape.rowMajorPi_succ_val]
  simp [Shape.rowMajorPi, Shape.rankPi]

/-- The row-major position of a rank-3 index. -/
theorem rowMajor3 {a b c : ℕ} (i : Fin a) (j : Fin b) (k : Fin c) :
    ((⟨3, ![a, b, c]⟩ : Shape).rowMajor (ix3 i j k)).val = (i.val * b + j.val) * c + k.val := by
  show (Shape.rowMajorPi _ _).val = _
  rw [Shape.rowMajorPi_succ_val, Shape.rowMajorPi_succ_val, Shape.rowMajorPi_succ_val]
  simp [Shape.rowMajorPi, Shape.rankPi, Fin.prod_univ_succ]
  ring

/-- The row-major position of a rank-1 index. -/
theorem rowMajor1 {a : ℕ} (i : Fin a) : ((⟨1, ![a]⟩ : Shape).rowMajor (ix1 i)).val = i.val := by
  show (Shape.rowMajorPi _ _).val = _
  rw [Shape.rowMajorPi_succ_val]
  simp [Shape.rowMajorPi, Shape.rankPi]

end Cert.Logits
-- ==== Proof.RefLogits.lean ====
/-
  THE REFERENCE'S LOGITS, at the ideal values: `logits_apply` reads the reference's array of logits at row `r` and
  vocabulary row `v` as the logit of that row of the activations and that row of the codes and scales.
-/
module

public import proofs.«01_k».proof.Proof.RefRun
public import proofs.«01_k».proof.Proof.Logits

@[expose] public section

noncomputable section

open Idealize.ShloMosaic Idealize.ShloMosaic.TcCoe Idealize.SL.Sem Idealize.ShloMosaic.ValueIdx

namespace Cert.ReferenceIdeal.Value

open Cert.ReferenceIdeal Cert.ReferenceIdeal.Gen Cert.ReferenceIdeal.Run Cert.Logits

/-- The low half of a byte, read from its 32-bit word. -/
theorem low_word (b : BitVec 8) : ((b.setWidth 32 &&& 15#32).toInt : ℤ) = (nibble b 0 : ℤ) := by
  revert b; decide +kernel

/-- The high half of a byte, read from its 32-bit word. -/
theorem high_word (b : BitVec 8) : (((b.setWidth 32).sshiftRight 4).toInt : ℤ) = (nibble b 1 : ℤ) := by
  revert b; decide +kernel

/-- Group `g`, byte `k` of row `v` is byte `16 g + k` of the row. -/
theorem words_apply (w : IVec S18944x2560 8) (v : Fin 18944) (b : Fin 2560) :
    words w (ix3 v (⟨b.val / 16, by omega⟩ : Fin 160) (⟨b.val % 16, by omega⟩ : Fin 16)) = (w (ix2 v b)).setWidth 32 := by
  unfold words
  refine (shapeCast_apply _ shapeCasts_S18944x2560_S18944x160x16 _ (ix2 v b)
    ((rowMajor2 v b).trans (by rw [rowMajor3]; dsimp only; omega))).trans ?_
  rfl

/-- The pattern of eight. -/
theorem eight : Ideal.ofBits .bf16 0x4100#16 = ((8 : ℝ) : EReal) := by
  simp [Ideal.ofBits, Ideal.ieee, -EReal.coe_mul]; norm_num

/-- The scaled code of row `v`, byte `b`, from codes `q`. -/
theorem weights_apply (q : IVec S18944x160x16 32) (s : FVec Ideal S18944x160 .bf16) (v : Fin 18944) (b : Fin 2560) (n : ℕ)
    (hq : ((q (ix3 v (⟨b.val / 16, by omega⟩ : Fin 160) (⟨b.val % 16, by omega⟩ : Fin 16))).toInt : ℤ) = (n : ℤ)) :
    weights (F := Ideal) q s (ix2 v b) = ((((n : ℤ) - 8 : ℤ) : ℝ) : EReal) * s (ix2 v (⟨b.val / 16, by omega⟩ : Fin 160)) := by
  unfold weights
  refine (shapeCast_apply _ shapeCasts_S18944x160x16_S18944x2560 (ix2 v b)
    (ix3 v (⟨b.val / 16, by omega⟩ : Fin 160) (⟨b.val % 16, by omega⟩ : Fin 16))
    ((rowMajor3 _ _ _).trans (by rw [rowMajor2]; dsimp only; omega))).trans ?_
  rw [mulf_apply]
  congr 1
  · show (((q (ix3 v (⟨b.val / 16, by omega⟩ : Fin 160) (⟨b.val % 16, by omega⟩ : Fin 16))).toInt : ℝ) : EReal)
      - Ideal.ofBits .bf16 0x4100#16 = _
    rw [hq, eight, ← EReal.coe_sub]
    push_cast
    rfl
  · refine (broadcastInDim_apply _ bcast_S18944x160x1_S18944x160x16_0_1_2 _ _ (ix3 v (⟨b.val / 16, by omega⟩ : Fin 160) (0 : Fin 1))
      (fun a => match a with
      | ⟨0, _⟩ => rfl
      | ⟨1, _⟩ => rfl
      | ⟨2, _⟩ => rfl)).trans ?_
    exact broadcastInDim_apply _ bcast_S18944x160_S18944x160x1_0_1 s _ _ (fun a => match a with
      | ⟨0, _⟩ => rfl
      | ⟨1, _⟩ => rfl)

/-- The weight of an even column `2 b`: the low code of byte `b`, scaled. -/
theorem low_apply (w : IVec S18944x2560 8) (s : FVec Ideal S18944x160 .bf16) (v : Fin 18944) (b : Fin 2560) :
    weights (F := Ideal) (low w) s (ix2 v b) = code (w (ix2 v b)) 0 * s (ix2 v (⟨b.val / 16, by omega⟩ : Fin 160)) :=
  weights_apply _ s v b _ ((congrArg BitVec.toInt (congrArg (· &&& 15#32) (words_apply w v b))).trans (low_word _))

/-- The weight of an odd column `2 b + 1`: the high code of byte `b`, scaled. -/
theorem high_apply (w : IVec S18944x2560 8) (s : FVec Ideal S18944x160 .bf16) (v : Fin 18944) (b : Fin 2560) :
    weights (F := Ideal) (high w) s (ix2 v b) = code (w (ix2 v b)) 1 * s (ix2 v (⟨b.val / 16, by omega⟩ : Fin 160)) :=
  weights_apply _ s v b _ ((congrArg BitVec.toInt (congrArg (fun x : BitVec 32 => x.sshiftRight 4) (words_apply w v b))).trans (high_word _))

/-- The activations of row `r` at the two columns of pair `b`. -/
theorem pairs_apply (x : FVec Ideal S192x1x5120 .bf16) (r : Fin 192) (b : Fin 2560) (u : Fin 2) :
    pairs (F := Ideal) x (ix3 r b u) = x (ix3 r (0 : Fin 1) (Fin.ofNat 5120 (2 * b.val + u.val))) :=
  shapeCast_apply x shapeCasts_S192x1x5120_S192x2560x2 _ _ ((rowMajor3 _ _ _).trans (by
    rw [rowMajor3]
    have h : (Fin.ofNat 5120 (2 * b.val + u.val)).val = 2 * b.val + u.val := Nat.mod_eq_of_lt (by omega)
    rw [h]
    have : (0 : Fin 1).val = 0 := rfl
    omega))

/-- The activation of row `r` at column `2 b`. -/
theorem evens_apply (x : FVec Ideal S192x1x5120 .bf16) (r : Fin 192) (b : Fin 2560) :
    evens (F := Ideal) x (ix2 r b) = x (ix3 r (0 : Fin 1) (Fin.ofNat 5120 (2 * b.val))) := by
  unfold evens
  refine (shapeCast_apply _ shapeCasts_S192x2560x1_S192x2560 (ix2 r b) (ix3 r b (0 : Fin 1)) ((rowMajor3 _ _ _).trans (by
    rw [rowMajor2]; simp))).trans ?_
  exact (extractStridedSlice_apply _ _ slices_S192x2560x2_S192x2560x1_0_0_0 _ (ix3 r b (0 : Fin 2)) (fun a => match a with
    | ⟨0, _⟩ => (Nat.zero_add _).symm
    | ⟨1, _⟩ => (Nat.zero_add _).symm
    | ⟨2, _⟩ => rfl)).trans (pairs_apply x r b 0)

/-- The activation of row `r` at column `2 b + 1`. -/
theorem odds_apply (x : FVec Ideal S192x1x5120 .bf16) (r : Fin 192) (b : Fin 2560) :
    odds (F := Ideal) x (ix2 r b) = x (ix3 r (0 : Fin 1) (Fin.ofNat 5120 (2 * b.val + 1))) := by
  unfold odds
  refine (shapeCast_apply _ shapeCasts_S192x2560x1_S192x2560 (ix2 r b) (ix3 r b (0 : Fin 1)) ((rowMajor3 _ _ _).trans (by
    rw [rowMajor2]; simp))).trans ?_
  exact (extractStridedSlice_apply _ _ slices_S192x2560x2_S192x2560x1_0_0_1 _ (ix3 r b (1 : Fin 2)) (fun a => match a with
    | ⟨0, _⟩ => (Nat.zero_add _).symm
    | ⟨1, _⟩ => (Nat.zero_add _).symm
    | ⟨2, _⟩ => rfl)).trans (pairs_apply x r b 1)

/-- One of the two products at row `r`, vocabulary row `v`: a sum over the 2560 bytes of the row. -/
theorem product_apply (x : FVec Ideal S192x2560 .bf16) (y : FVec Ideal S18944x2560 .bf16) (r : Fin 192) (v : Fin 18944)
    (f : ℕ → EReal) (h : ∀ b : Fin 2560, x (ix2 r b) * y (ix2 v b) = f b.val) :
    (Host.dotGeneral dot_S192x2560_S18944x2560_S192x18944_1_1_0_0_n_n none x y : FVec Ideal S192x18944 .f32) (ix2 r v)
      = ∑ b ∈ Finset.range 2560, f b := by
  simp only [Host.dotGeneral]
  rw [Ideal.dotGeneral_apply]
  rw [← Equiv.sum_comp (contrEquiv1 dot_S192x2560_S18944x2560_S192x18944_1_1_0_0_n_n 2560 rfl rfl).symm, Finset.sum_range]
  refine Finset.sum_congr rfl fun p _ => ?_
  have hk := contrEquiv1_symm_val dot_S192x2560_S18944x2560_S192x18944_1_1_0_0_n_n 2560 rfl rfl p
  rw [← h p]
  congr 1
  · refine congrArg x (funext fun a => Fin.ext ?_)
    match a with
    | ⟨0, _⟩ => rfl
    | ⟨1, _⟩ => exact hk
  · refine congrArg y (funext fun a => Fin.ext ?_)
    match a with
    | ⟨0, _⟩ => rfl
    | ⟨1, _⟩ => exact hk

/-- Row `r` of the activations, row `v` of the packed codes and of the scales, by natural-number column. -/
def xRow (x : FVec Ideal S192x1x5120 .bf16) (r : Fin 192) (d : ℕ) : EReal := x (ix3 r (0 : Fin 1) (Fin.ofNat 5120 d))
@[inherit_doc xRow] def wRow (w : IVec S18944x2560 8) (v b : ℕ) : BitVec 8 := w (ix2 (Fin.ofNat 18944 v) (Fin.ofNat 2560 b))
@[inherit_doc xRow] def sRow (s : FVec Ideal S18944x160 .bf16) (v g : ℕ) : EReal := s (ix2 (Fin.ofNat 18944 v) (Fin.ofNat 160 g))

/-- The term of column `2 b + u`, from its activation, its byte's code and its group's scale. -/
theorem term_pair (x : FVec Ideal S192x1x5120 .bf16) (w : IVec S18944x2560 8) (s : FVec Ideal S18944x160 .bf16) (r : Fin 192)
    (v : Fin 18944) (b : Fin 2560) (u : ℕ) (hu : u < 2) :
    xRow x r (2 * b.val + u) * (code (w (ix2 v b)) u * s (ix2 v (⟨b.val / 16, by omega⟩ : Fin 160)))
      = term (xRow x r) (wRow w v.val) (sRow s v.val) (2 * b.val + u) := by
  unfold term
  have hv : Fin.ofNat 18944 v.val = v := Fin.ext (Nat.mod_eq_of_lt v.isLt)
  have hb : Fin.ofNat 2560 ((2 * b.val + u) / 2) = b := Fin.ext (by
    show ((2 * b.val + u) / 2) % 2560 = b.val; omega)
  have hg : Fin.ofNat 160 ((2 * b.val + u) / 32) = (⟨b.val / 16, by omega⟩ : Fin 160) := Fin.ext (by
    show ((2 * b.val + u) / 32) % 160 = b.val / 16; omega)
  have hc : code (w (ix2 v b)) (2 * b.val + u) = code (w (ix2 v b)) u := by
    unfold code nibble
    rw [show (2 * b.val + u) % 2 = u % 2 by omega]
  unfold wRow sRow
  rw [hv, hb, hg, hc]

/-- The reference's logit at row `r`, vocabulary row `v`. -/
theorem logits_apply (x : FVec Ideal S192x1x5120 .bf16) (w : IVec S18944x2560 8) (s : FVec Ideal S18944x160 .bf16) (r : Fin 192)
    (v : Fin 18944) :
    logits (F := Ideal) x w s (ix2 r v) = logit (xRow x r) (wRow w v.val) (sRow s v.val) := by
  refine Eq.trans ?_ (logit_eq_even_add_odd _ _ _)
  show (Host.dotGeneral _ none (evens x) (weights (low w) s) : FVec Ideal S192x18944 .f32) (ix2 r v)
    + (Host.dotGeneral _ none (odds x) (weights (high w) s) : FVec Ideal S192x18944 .f32) (ix2 r v) = _
  congr 1
  · exact product_apply _ _ r v (fun b => term (xRow x r) (wRow w v.val) (sRow s v.val) (2 * b)) fun b => by
      rw [evens_apply, low_apply]; exact term_pair x w s r v b 0 (by norm_num)
  · exact product_apply _ _ r v (fun b => term (xRow x r) (wRow w v.val) (sRow s v.val) (2 * b + 1)) fun b => by
      rw [odds_apply, high_apply]; exact term_pair x w s r v b 1 (by norm_num)

end Cert.ReferenceIdeal.Value
-- ==== Proof.Top1.lean ====
/-
  THE ORDER MATHEMATICS OF A GREEDY HEAD — no floats, no arrays: values in any linear order with a bottom.

  A row of values over `T * W` columns is cut into `W` lanes (column `v` is lane `v % W`, row block `v / W`). Going through the
  blocks in order, every lane keeps its greatest value, its second greatest value and the first block attaining the
  greatest (`LaneBest`, `LaneBest.one`, `LaneBest.step`). From the `W` lanes the row's greatest value, the first column
  attaining it and the greatest value over the other columns are recovered (`sup_lanes`, `first_lanes`, `second_lanes`).
-/
module

public import Mathlib.Data.Finset.Lattice.Fold
public import Mathlib.Order.Interval.Finset.Nat
public import Mathlib.Tactic.Linarith
public import Mathlib.Order.Lattice

@[expose] public section

namespace Cert.Top1

open Finset

variable {α : Type*} [LinearOrder α] [OrderBot α]

/-- What one lane knows of its values `g 0, …, g (n - 1)`: the greatest one `m1`, the first place `k` it is attained at,
    and the greatest one `m2` over the other places. -/
structure LaneBest (g : ℕ → α) (n : ℕ) (m1 m2 : α) (k : ℕ) : Prop where
  max_eq : m1 = (range n).sup g
  lt : k < n
  att : g k = m1
  first : ∀ t < k, g t < m1
  second : m2 = ((range n).erase k).sup g

/-- After the first value, from a bottom first and second and place 0. -/
theorem LaneBest.one (g : ℕ → α) :
    LaneBest g 1 (max ⊥ (g 0)) (max ⊥ (min ⊥ (g 0))) (if ⊥ < g 0 then 0 else 0) := by
  refine ⟨by simp, by simp, by simp, by simp, by simp⟩

/-- One more value. -/
theorem LaneBest.step {g : ℕ → α} {n : ℕ} {m1 m2 : α} {k : ℕ} (h : LaneBest g n m1 m2 k) :
    LaneBest g (n + 1) (max m1 (g n)) (max m2 (min m1 (g n))) (if m1 < g n then n else k) := by
  have hk := h.lt
  have hle : ∀ t < n, g t ≤ m1 := fun t ht => h.max_eq ▸ le_sup (f := g) (mem_range.2 ht)
  have hsup : (range (n + 1)).sup g = max m1 (g n) := by
    rw [range_add_one, sup_insert, ← h.max_eq, max_comm]
  have hm : max m2 m1 = m1 := by
    apply max_eq_right
    rw [h.second, h.max_eq]
    exact sup_mono (erase_subset _ _)
  split_ifs with hc
  · refine ⟨hsup.symm, by omega, by rw [max_eq_right hc.le], fun t ht => ?_, ?_⟩
    · rw [max_eq_right hc.le]; exact lt_of_le_of_lt (hle t ht) hc
    · have : (range (n + 1)).erase n = range n := by
        ext a; simp only [mem_erase, mem_range]; omega
      rw [this, ← h.max_eq, min_eq_left hc.le, hm]
  · have hc' : g n ≤ m1 := not_lt.1 hc
    refine ⟨hsup.symm, by omega, by rw [max_eq_left hc']; exact h.att, fun t ht => ?_, ?_⟩
    · rw [max_eq_left hc']; exact h.first t ht
    · have : (range (n + 1)).erase k = insert n ((range n).erase k) := by
        ext a; simp only [mem_erase, mem_range, mem_insert]; omega
      rw [this, sup_insert, ← h.second, min_eq_right hc', max_comm]

/-- `k` is the first column below `n` at which `f` takes its greatest value. -/
structure IsFirstMax (f : ℕ → α) (n k : ℕ) : Prop where
  lt : k < n
  att : f k = (range n).sup f
  first : ∀ v < k, f v < (range n).sup f

/-- There is one such column only. -/
theorem IsFirstMax.unique {f : ℕ → α} {n k k' : ℕ} (h : IsFirstMax f n k) (h' : IsFirstMax f n k') : k = k' := by
  rcases lt_trichotomy k k' with hl | he | hl
  · exact absurd h.att (h'.first k hl).ne
  · exact he
  · exact absurd h'.att (h.first k' hl).ne

section Lanes

variable {f : ℕ → α} {T W : ℕ} {m1 m2 : ℕ → α} {k : ℕ → ℕ}

/-- The lane and the block of a column. -/
theorem split_col (hW : 0 < W) {v : ℕ} (hv : v < T * W) : v / W < T ∧ v % W < W ∧ v = W * (v / W) + v % W :=
  ⟨Nat.div_lt_of_lt_mul (by rwa [Nat.mul_comm] at hv), Nat.mod_lt _ hW, (Nat.div_add_mod v W).symm⟩

theorem col_lt {t l : ℕ} (ht : t < T) (hl : l < W) : W * t + l < T * W := by
  have : W * t + W ≤ T * W := by rw [← Nat.mul_succ, Nat.mul_comm T W]; exact Nat.mul_le_mul_left _ ht
  omega

variable (h : ∀ l < W, LaneBest (fun t => f (W * t + l)) T (m1 l) (m2 l) (k l))
include h

/-- A column's value is at most its lane's greatest. -/
theorem le_lane (hW : 0 < W) {v : ℕ} (hv : v < T * W) : f v ≤ m1 (v % W) := by
  obtain ⟨h1, h2, h3⟩ := split_col hW hv
  rw [(h _ h2).max_eq]
  conv_lhs => rw [h3]
  exact le_sup (f := fun t => f (W * t + v % W)) (mem_range.2 h1)

/-- The greatest of the lanes' greatest values is the row's. -/
theorem sup_lanes (hW : 0 < W) : (range W).sup m1 = (range (T * W)).sup f := by
  apply le_antisymm
  · refine Finset.sup_le fun l hl => ?_
    have hl := mem_range.1 hl
    rw [← (h l hl).att]
    exact le_sup (f := f) (mem_range.2 (col_lt (h l hl).lt hl))
  · refine Finset.sup_le fun v hv => ?_
    have hv := mem_range.1 hv
    exact (le_lane h hW hv).trans (le_sup (f := m1) (mem_range.2 (split_col hW hv).2.1))

/-- The least of the columns kept by the lanes whose greatest value is the row's is the first column attaining it. -/
theorem first_lanes (hW : 0 < W) {l : ℕ} (hl : l < W) (htop : m1 l = (range W).sup m1)
    (hmin : ∀ l' < W, m1 l' = (range W).sup m1 → W * k l + l ≤ W * k l' + l') :
    IsFirstMax f (T * W) (W * k l + l) := by
  refine ⟨col_lt (h l hl).lt hl, ?_, fun v hv => ?_⟩
  · rw [← sup_lanes h hW, ← htop]; exact (h l hl).att
  · have hvN : v < T * W := hv.trans (col_lt (h l hl).lt hl)
    obtain ⟨h1, h2, h3⟩ := split_col hW hvN
    rw [← sup_lanes h hW]
    by_contra hc
    have hge := not_lt.1 hc
    have hm : m1 (v % W) = (range W).sup m1 :=
      le_antisymm (le_sup (f := m1) (mem_range.2 h2)) (hge.trans (le_lane h hW hvN))
    have h5 := hmin _ h2 hm
    have h6 : k (v % W) ≤ v / W := by
      by_contra h7
      have h8 := (h _ h2).first _ (not_le.1 h7)
      simp only [← h3] at h8
      rw [hm] at h8
      exact absurd hge (not_le.2 h8)
    have h9 : W * k (v % W) ≤ W * (v / W) := Nat.mul_le_mul_left _ h6
    omega

omit h in
theorem lane_unique {t l t' l' : ℕ} (hl : l < W) (hl' : l' < W) (e : W * t + l = W * t' + l') : t = t' ∧ l = l' := by
  have h1 : (W * t + l) % W = l := by rw [Nat.mul_add_mod]; exact Nat.mod_eq_of_lt hl
  have h2 : (W * t' + l') % W = l' := by rw [Nat.mul_add_mod]; exact Nat.mod_eq_of_lt hl'
  have h3 : l = l' := by rw [← h1, ← h2, e]
  refine ⟨?_, h3⟩
  subst h3
  exact Nat.eq_of_mul_eq_mul_left (by omega : 0 < W) (by omega)

/-- The greatest value over the columns other than `c`, `c` one of the columns the lanes keep: its own lane answers with
    its second value, every other lane with its first. -/
theorem second_lanes (hW : 0 < W) (c : ℕ) :
    (range W).sup (fun l => if W * k l + l = c then m2 l else m1 l) = ((range (T * W)).erase c).sup f := by
  apply le_antisymm
  · refine Finset.sup_le fun l hl => ?_
    have hl := mem_range.1 hl
    split_ifs with hc
    · rw [(h l hl).second]
      refine Finset.sup_le fun t ht => ?_
      obtain ⟨ht1, ht2⟩ := mem_erase.1 ht
      refine le_sup (f := f) (mem_erase.2 ⟨fun e => ht1 ?_, mem_range.2 (col_lt (mem_range.1 ht2) hl)⟩)
      exact (lane_unique hl hl (e.trans hc.symm)).1
    · rw [← (h l hl).att]
      exact le_sup (f := f) (mem_erase.2 ⟨hc, mem_range.2 (col_lt (h l hl).lt hl)⟩)
  · refine Finset.sup_le fun v hv => ?_
    obtain ⟨hv1, hv2⟩ := mem_erase.1 hv
    have hv2 := mem_range.1 hv2
    obtain ⟨h1, h2, h3⟩ := split_col hW hv2
    refine le_trans ?_ (le_sup (f := fun l => if W * k l + l = c then m2 l else m1 l) (mem_range.2 h2))
    show f v ≤ if W * k (v % W) + v % W = c then m2 (v % W) else m1 (v % W)
    split_ifs with hc
    · rw [(h _ h2).second]
      conv_lhs => rw [h3]
      refine le_sup (f := fun t => f (W * t + v % W)) (mem_erase.2 ⟨fun e => hv1 ?_, mem_range.2 h1⟩)
      rw [h3, e, hc]
    · exact le_lane h hW hv2

end Lanes

end Cert.Top1
-- ==== Proof.FirstMax.lean ====
/-
  A LEFT FOLD THAT FINDS THE FIRST MAXIMUM: pairs of a value and a place, of which the greater value is kept and, among
  equal values, the smaller place.
-/
module

public import proofs.«01_k».proof.Proof.RefRun
public import proofs.«01_k».proof.Proof.Top1
public import proofs.«01_k».proof.Proof.Logits

@[expose] public section

noncomputable section

open Idealize.ShloMosaic

namespace Cert.FirstMax

open Cert.ReferenceIdeal Finset Cert.Top1

/-- Pair `p` is at least as good as pair `q`: a greater value, or the same one at a place that is no later. -/
def AtLeast (p q : EReal × BitVec 32) : Prop := q.1 < p.1 ∨ (q.1 = p.1 ∧ p.2.toInt ≤ q.2.toInt)

theorem AtLeast.refl (p : EReal × BitVec 32) : AtLeast p p := Or.inr ⟨rfl, le_rfl⟩

theorem AtLeast.trans {p q r : EReal × BitVec 32} (h : AtLeast p q) (h' : AtLeast q r) : AtLeast p r := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩

/-- The step of the fold keeps one of its two pairs, and the kept one is at least as good as both. -/
theorem step (a b : EReal × BitVec 32) :
    (reducer_argmax_f32_i32 (F := Ideal) a b = a ∨ reducer_argmax_f32_i32 (F := Ideal) a b = b)
      ∧ AtLeast (reducer_argmax_f32_i32 (F := Ideal) a b) a ∧ AtLeast (reducer_argmax_f32_i32 (F := Ideal) a b) b := by
  obtain ⟨x, i⟩ := a
  obtain ⟨y, j⟩ := b
  have e : reducer_argmax_f32_i32 (F := Ideal) (x, i) (y, j)
      = (if y < x then x else y, if y < x ∨ (x = y ∧ i.toInt < j.toInt) then i else j) := by
    unfold reducer_argmax_f32_i32
    simp only [Ideal.cmpf_def, Ideal.cmp, IntOp.ori, IntOp.andi, IntOp.cmpi, Scalar.select, BitVec.slt]
    by_cases h1 : y < x <;> by_cases h2 : x = y <;> by_cases h3 : i.toInt < j.toInt <;> simp [h1, h2, h3]
  rw [e]
  unfold AtLeast
  rcases lt_trichotomy y x with h | h | h
  · simp [h]
  · subst h
    by_cases h3 : i.toInt < j.toInt
    · simp [h3, h3.le]
    · simp [h3, not_lt.1 h3]
  · simp [h, h.not_gt, h.ne]

/-- The fold keeps one of the pairs, and the kept one is at least as good as every one. -/
theorem foldl (l : List (EReal × BitVec 32)) (p : EReal × BitVec 32) :
    (l.foldl (reducer_argmax_f32_i32 (F := Ideal)) p) ∈ p :: l
      ∧ ∀ q ∈ p :: l, AtLeast (l.foldl (reducer_argmax_f32_i32 (F := Ideal)) p) q := by
  induction l generalizing p with
  | nil => simp [AtLeast.refl]
  | cons a l ih =>
    obtain ⟨h1, h2, h3⟩ := step p a
    obtain ⟨i1, i2⟩ := ih (reducer_argmax_f32_i32 (F := Ideal) p a)
    have hs := i2 _ List.mem_cons_self
    simp only [List.foldl_cons]
    refine ⟨?_, fun q hq => ?_⟩
    · rcases List.mem_cons.1 i1 with h | h
      · rw [h]
        rcases h1 with h1 | h1 <;> rw [h1] <;> simp
      · exact List.mem_cons_of_mem _ (List.mem_cons_of_mem _ h)
    · rcases List.mem_cons.1 hq with rfl | hq
      · exact hs.trans h2
      · rcases List.mem_cons.1 hq with rfl | hq
        · exact hs.trans h3
        · exact i2 q (List.mem_cons_of_mem _ hq)

/-- Over the pairs of a row of `n` values and their places, from the bottom at place zero, the fold keeps the first place at
    which the row is greatest. -/
theorem foldl_row {n : ℕ} (f : ℕ → EReal) (hn : 0 < n) (hi : ∀ v < n, (BitVec.ofNat 32 v).toInt = v) (l : List (EReal × BitVec 32))
    (hl : ∀ q, q ∈ l ↔ ∃ v < n, q = (f v, BitVec.ofNat 32 v)) :
    ∃ v, IsFirstMax f n v ∧ (l.foldl (reducer_argmax_f32_i32 (F := Ideal)) (⊥, 0#32)).2 = BitVec.ofNat 32 v := by
  obtain ⟨h1, h2⟩ := foldl l (⊥, 0#32)
  generalize l.foldl (reducer_argmax_f32_i32 (F := Ideal)) (⊥, 0#32) = p at h1 h2
  have hall : ∀ u < n, AtLeast p (f u, BitVec.ofNat 32 u) := fun u hu => h2 _ (List.mem_cons_of_mem _ ((hl _).2 ⟨u, hu, rfl⟩))
  have hp : ∃ v < n, p = (f v, BitVec.ofNat 32 v) := by
    rcases List.mem_cons.1 h1 with h | h
    · refine ⟨0, hn, ?_⟩
      rcases hall 0 hn with h0 | ⟨h0, -⟩
      · rw [h] at h0; exact absurd h0 not_lt_bot
      · rw [h] at h0 ⊢
        exact Prod.ext h0.symm rfl
    · exact (hl _).1 h
  obtain ⟨v, hv, rfl⟩ := hp
  have hle : ∀ u < n, f u ≤ f v := fun u hu => by
    rcases hall u hu with h | ⟨h, -⟩
    · exact h.le
    · exact h.le
  have hs : f v = (range n).sup f :=
    le_antisymm (le_sup (f := f) (mem_range.2 hv)) (Finset.sup_le fun u hu => hle u (mem_range.1 hu))
  refine ⟨v, ⟨hv, hs, fun u hu => ?_⟩, rfl⟩
  rw [← hs]
  rcases hall u (hu.trans hv) with h | ⟨-, h⟩
  · exact h
  · dsimp only at h
    rw [hi u (hu.trans hv), hi v hv] at h
    omega

/-- The pairs a reduction folds over at one place of its result: those of the places that belong to it. -/
theorem mem_fiber {s t : Shape} {axes : List (Fin s.rank)} (x : s.Idx → EReal) (y : s.Idx → BitVec 32) (h : s.ReducesTo axes t) (j : t.Idx)
    (q : EReal × BitVec 32) : q ∈ Host.argReduceFiber x y h j ↔ ∃ i, h.drop i = j ∧ q = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rwa [Equiv.symm_apply_apply], by rw [Equiv.symm_apply_apply]⟩

/-- The host's reduction of values and places, from the bottom at place zero, gives the first place at which the values are
    greatest, when the pairs at one place of the result are those of a row of `n` values. -/
theorem argReduce_row {s t u : Shape} {axes : List (Fin s.rank)} (x : FVec Ideal s .f32) (y : IVec s 32) (ix : FVec Ideal u .f32) (iy : IVec u 32)
    (h : s.ReducesTo axes t) (hu : 0 < u.numel) (j : t.Idx) {n : ℕ} (f : ℕ → EReal) (hn : 0 < n)
    (hi : ∀ v < n, (BitVec.ofNat 32 v).toInt = v) (hx : ix (Shape.Idx.first hu) = (⊥ : EReal)) (hy : iy (Shape.Idx.first hu) = 0#32)
    (hl : ∀ q : EReal × BitVec 32, (∃ i, h.drop i = j ∧ q = (x i, y i)) ↔ ∃ v < n, q = (f v, BitVec.ofNat 32 v)) :
    ∃ v, IsFirstMax f n v ∧ ReferenceIdeal.Run.places x y ix iy h hu j = BitVec.ofNat 32 v := by
  unfold ReferenceIdeal.Run.places
  rw [Ideal.argReduce_eq_reduce2, Host.reduce2_eq_foldl_fiber, hx, hy]
  exact foldl_row f hn hi _ fun q => (mem_fiber x y h j q).trans (hl q)

end Cert.FirstMax
-- ==== Proof.Tile.lean ====
/-
  THE KERNEL'S ARITHMETIC, NAMED — for every float instance, with nothing computed yet.

  One grid point turns a block of 512 vocabulary rows (packed codes `x1`, group scales `x2`) and the activations `x0` into
  a [192, 512] array of logits, by 20 matrix products of 256 columns each (`tile`, `acc`), and folds its four 128-column
  chunks into the three [192, 128] arrays carried from point to point: per row and lane the greatest logit, the second
  greatest and the 128-column block of the greatest (`lanes`). `acc_eq` says the printed operations, cut as they are, are
  that sum of products.
-/
module

public import proofs.«01_k».proof.Proof.Gen.KernelIdeal.Value
public import Idealize.ShloMosaic.Lib.Pipeline.ValueKit.Acc
public import Idealize.ShloMosaic.Lib.Pipeline.ValueKit.Tiles

@[expose] public section

noncomputable section

open Idealize.ShloMosaic Idealize.ShloMosaic.TcCoe Idealize.SL.Sem

namespace Cert.KernelIdeal.Tile

open Cert.KernelIdeal Cert.KernelIdeal.Gen

variable {F : FTy → Type} [FloatOps F]

/-- The bytes of a 128-byte-wide slab of packed rows, transposed, the top bit of each nibble flipped, as words. -/
def bytes (w : Vec F S512x128 .i8) : IVec S128x512 32 :=
  extui 32 (xori (transpose S128x512 [1, 0] w transposes_S512x128_p1_0_S128x512) (broadcast S128x512 136#8)) natLt_8_32

/-- Each byte's two nibbles side by side: the byte's low four bits, then the byte shifted down by four. -/
def pairs (w : Vec F S512x128 .i8) : IVec S128x2x512 32 :=
  concatenate S128x2x512 1
    [⟨S128x1x512, shapeCast S128x1x512 (andi (bytes w) (broadcast S128x512 15#32)) shapeCasts_S128x512_S128x1x512⟩,
     ⟨S128x1x512, shapeCast S128x1x512 (shrsi (bytes w) (broadcast S128x512 4#32)) shapeCasts_S128x512_S128x1x512⟩]
    concatenates_S128x1x512_S128x1x512_S128x2x512_d1

/-- The signed codes: row `2 b + h` is nibble `h` of byte `b`. -/
def codes (w : Vec F S512x128 .i8) : IVec S256x512 4 :=
  trunci 4 (shapeCast S256x512 (pairs w) shapeCasts_S128x2x512_S256x512) natLt_4_32

/-- The codes scaled: each group of 32 rows by its row of scales. -/
def weights (s : FVec F S8x512 .bf16) (w : Vec F S512x128 .i8) : FVec F S256x512 .bf16 :=
  shapeCast S256x512
    (mulf (shapeCast S8x32x512 (sitofp .bf16 (codes (F := F) w) : FVec F S256x512 .bf16) shapeCasts_S256x512_S8x32x512)
      (broadcastTo S8x32x512 (shapeCast S8x1x512 s shapeCasts_S8x512_S8x1x512) broadcasts_S8x1x512_S8x32x512))
    shapeCasts_S8x32x512_S256x512

/-- One product: 256 columns of the activations against the scaled codes of the slab. -/
def tile (s : FVec F S8x512 .bf16) (w : Vec F S512x128 .i8) (x : Vec F S192x256 .bf16) : FVec F S192x512 .f32 :=
  matmul dot_S192x256_S256x512_S192x512_1_0_0_1_n_n none (shapeCast S192x256 x shapeCasts_S192x256_S192x256 : FVec F S192x256 .bf16)
    (weights s w) (constant S192x512 .f32 0x00000000#32)

theorem slices_scale {k : ℕ} (h : k < 20) : S160x512.Slices ![8 * k, 0] S8x512 :=
  ⟨rfl, fun a => match a with
    | ⟨0, _⟩ => by show 8 * k + 8 ≤ 160; omega
    | ⟨1, _⟩ => by show 0 + 512 ≤ 512; omega⟩

theorem inb_w {k : ℕ} (h : k < 20) : ∀ a, (![0, 128 * k] : Fin 2 → ℕ) a + (![512, 128] : Fin 2 → ℕ) a ≤ S512x2560.size a := fun a =>
  match a with
    | ⟨0, _⟩ => by show 0 + 512 ≤ 512; omega
    | ⟨1, _⟩ => by show 128 * k + 128 ≤ 2560; omega

theorem inb_x {k : ℕ} (h : k < 20) : ∀ a, (![0, 256 * k] : Fin 2 → ℕ) a + (![192, 256] : Fin 2 → ℕ) a ≤ S192x5120.size a := fun a =>
  match a with
    | ⟨0, _⟩ => by show 0 + 192 ≤ 192; omega
    | ⟨1, _⟩ => by show 256 * k + 256 ≤ 5120; omega

/-- The `k`-th product of a block. -/
def tileAt (x0 : Vec F S192x5120 .bf16) (x1 : Vec F S512x2560 .i8) (x2 : Vec F S512x160 .bf16) (k : ℕ) (h : k < 20) : FVec F S192x512 .f32 :=
  tile (extractStridedSlice S8x512 ![8 * k, 0] (transpose S160x512 [1, 0] x2 transposes_S512x160_p1_0_S160x512 : FVec F S160x512 .bf16) (slices_scale h))
    (View.ld x1 (Rect.unit ![0, 128 * k] ![512, 128] (inb_w h)))
    (View.ld x0 (Rect.unit ![0, 256 * k] ![192, 256] (inb_x h)))

/-- The sum of the first `n` products, from zero. -/
def acc (x0 : Vec F S192x5120 .bf16) (x1 : Vec F S512x2560 .i8) (x2 : Vec F S512x160 .bf16) : (n : ℕ) → n ≤ 20 → FVec F S192x512 .f32
  | 0, _ => broadcast S192x512 (Scalar.ofBits .f32 0x00000000#32)
  | n + 1, h => addf (acc x0 x1 x2 n (Nat.le_of_succ_le h)) (tileAt x0 x1 x2 n h)

theorem slices_chunk {k : ℕ} (h : k < 4) : S192x512.Slices ![0, 128 * k] S192x128 :=
  ⟨rfl, fun a => match a with
    | ⟨0, _⟩ => by show 0 + 192 ≤ 192; omega
    | ⟨1, _⟩ => by show 128 * k + 128 ≤ 512; omega⟩

/-- The `k`-th 128-column chunk of a block's logits. -/
def chunk (a : FVec F S192x512 .f32) (k : ℕ) (h : k < 4) : FVec F S192x128 .f32 :=
  extractStridedSlice S192x128 ![0, 128 * k] a (slices_chunk h)

/-- The carried arrays after the first `n` chunks of the block at grid coordinate `i`: first, second, block number. -/
def lanes (i : BitVec 32) (a : FVec F S192x512 .f32) (s : Vec F S192x128 .f32 × Vec F S192x128 .f32 × Vec F S192x128 .i32) :
    (n : ℕ) → n ≤ 4 → Vec F S192x128 .f32 × Vec F S192x128 .f32 × Vec F S192x128 .i32
  | 0, _ => s
  | n + 1, h =>
    (maximumf (φ := .f32) (lanes i a s n (Nat.le_of_succ_le h)).1 (chunk a n h),
      maximumf (φ := .f32) (lanes i a s n (Nat.le_of_succ_le h)).2.1 (minimumf (φ := .f32) (lanes i a s n (Nat.le_of_succ_le h)).1 (chunk a n h)),
      select (cmpf (φ := .f32) .ogt (chunk a n h) (lanes i a s n (Nat.le_of_succ_le h)).1)
        (broadcast S192x128 (Scalar.addi (Scalar.muli i 4#32) (BitVec.ofNat 32 n))) (lanes i a s n (Nat.le_of_succ_le h)).2.2)

/-- The printed chain of operations from the three blocks to the block's logits is the sum of the 20 products. -/
theorem acc_eq (x0 : Vec F S192x5120 .bf16) (x1 : Vec F S512x2560 .i8) (x2 : Vec F S512x160 .bf16) :
    k0_pay37 (k0_pay11 x2)
        (k0_pay35 (k0_pay11 x2)
          (k0_pay33 (k0_pay11 x2)
            (k0_pay31 (k0_pay11 x2)
              (k0_pay29 (k0_pay11 x2)
                (k0_pay26 (k0_pay11 x2)
                  (k0_pay24 (k0_pay11 x2)
                    (k0_pay21 (k0_pay11 x2)
                      (k0_pay19 (k0_pay11 x2)
                        (k0_pay18 (k0_pay11 x2)
                          (k0_pay16 (k0_pay11 x2)
                            (k0_pay12 x2 (View.ld x1 (Rect.unit ![0, 0] ![512, 128] inb_S512x2560_S512x128_0_0))
                              (View.ld x0 (Rect.unit ![0, 0] ![192, 256] inb_S192x5120_S192x256_0_0)))
                            (k0_pay14 (View.ld x1 (Rect.unit ![0, 128] ![512, 128] inb_S512x2560_S512x128_0_128)))
                            (k0_pay15 (View.ld x1 (Rect.unit ![0, 128] ![512, 128] inb_S512x2560_S512x128_0_128)))
                            (View.ld x0 (Rect.unit ![0, 256] ![192, 256] inb_S192x5120_S192x256_0_256))
                            (View.ld x1 (Rect.unit ![0, 256] ![512, 128] inb_S512x2560_S512x128_0_256))
                            (View.ld x0 (Rect.unit ![0, 512] ![192, 256] inb_S192x5120_S192x256_0_512)))
                          (k0_pay17 (View.ld x1 (Rect.unit ![0, 384] ![512, 128] inb_S512x2560_S512x128_0_384)))
                          (View.ld x0 (Rect.unit ![0, 768] ![192, 256] inb_S192x5120_S192x256_0_768))
                          (View.ld x1 (Rect.unit ![0, 512] ![512, 128] inb_S512x2560_S512x128_0_512))
                          (View.ld x0 (Rect.unit ![0, 1024] ![192, 256] inb_S192x5120_S192x256_0_1024)))
                        (View.ld x1 (Rect.unit ![0, 640] ![512, 128] inb_S512x2560_S512x128_0_640))
                        (View.ld x0 (Rect.unit ![0, 1280] ![192, 256] inb_S192x5120_S192x256_0_1280)))
                      (k0_pay20 (k0_pay11 x2)
                        (View.ld x1 (Rect.unit ![0, 768] ![512, 128] inb_S512x2560_S512x128_0_768)))
                      (View.ld x0 (Rect.unit ![0, 1536] ![192, 256] inb_S192x5120_S192x256_0_1536))
                      (View.ld x1 (Rect.unit ![0, 896] ![512, 128] inb_S512x2560_S512x128_0_896))
                      (View.ld x0 (Rect.unit ![0, 1792] ![192, 256] inb_S192x5120_S192x256_0_1792)))
                    (k0_pay22 (View.ld x1 (Rect.unit ![0, 1024] ![512, 128] inb_S512x2560_S512x128_0_1024)))
                    (k0_pay23 (k0_pay11 x2))
                    (View.ld x0 (Rect.unit ![0, 2048] ![192, 256] inb_S192x5120_S192x256_0_2048))
                    (View.ld x1 (Rect.unit ![0, 1152] ![512, 128] inb_S512x2560_S512x128_0_1152))
                    (View.ld x0 (Rect.unit ![0, 2304] ![192, 256] inb_S192x5120_S192x256_0_2304)))
                  (k0_pay25 (View.ld x1 (Rect.unit ![0, 1280] ![512, 128] inb_S512x2560_S512x128_0_1280)))
                  (View.ld x0 (Rect.unit ![0, 2560] ![192, 256] inb_S192x5120_S192x256_0_2560))
                  (View.ld x1 (Rect.unit ![0, 1408] ![512, 128] inb_S512x2560_S512x128_0_1408))
                  (View.ld x0 (Rect.unit ![0, 2816] ![192, 256] inb_S192x5120_S192x256_0_2816)))
                (k0_pay27 (View.ld x1 (Rect.unit ![0, 1536] ![512, 128] inb_S512x2560_S512x128_0_1536)))
                (k0_pay28 (View.ld x1 (Rect.unit ![0, 1536] ![512, 128] inb_S512x2560_S512x128_0_1536)))
                (View.ld x0 (Rect.unit ![0, 3072] ![192, 256] inb_S192x5120_S192x256_0_3072))
                (View.ld x1 (Rect.unit ![0, 1664] ![512, 128] inb_S512x2560_S512x128_0_1664))
                (View.ld x0 (Rect.unit ![0, 3328] ![192, 256] inb_S192x5120_S192x256_0_3328)))
              (k0_pay30 (View.ld x1 (Rect.unit ![0, 1792] ![512, 128] inb_S512x2560_S512x128_0_1792))) (136#8)
              (View.ld x0 (Rect.unit ![0, 3584] ![192, 256] inb_S192x5120_S192x256_0_3584)))
            (k0_pay32 (k0_pay11 x2) (View.ld x1 (Rect.unit ![0, 1920] ![512, 128] inb_S512x2560_S512x128_0_1920))
              (View.ld x0 (Rect.unit ![0, 3840] ![192, 256] inb_S192x5120_S192x256_0_3840)))
            (View.ld x1 (Rect.unit ![0, 2048] ![512, 128] inb_S512x2560_S512x128_0_2048))
            (View.ld x0 (Rect.unit ![0, 4096] ![192, 256] inb_S192x5120_S192x256_0_4096)))
          (k0_pay34 (k0_pay11 x2) (View.ld x1 (Rect.unit ![0, 2176] ![512, 128] inb_S512x2560_S512x128_0_2176)))
          (View.ld x0 (Rect.unit ![0, 4352] ![192, 256] inb_S192x5120_S192x256_0_4352))
          (View.ld x1 (Rect.unit ![0, 2304] ![512, 128] inb_S512x2560_S512x128_0_2304))
          (View.ld x0 (Rect.unit ![0, 4608] ![192, 256] inb_S192x5120_S192x256_0_4608)))
        (k0_pay36 (View.ld x1 (Rect.unit ![0, 2432] ![512, 128] inb_S512x2560_S512x128_0_2432)))
        (View.ld x0 (Rect.unit ![0, 4864] ![192, 256] inb_S192x5120_S192x256_0_4864))
      = acc x0 x1 x2 20 le_rfl := rfl

end Cert.KernelIdeal.Tile
-- ==== Proof.Steps.lean ====
/-
  WHAT ONE GRID POINT LEAVES — for every float instance.

  The carried arrays after a point are `lanes` of the point's logits over the arrays carried in (at the first point: over the
  starting arrays `start`), and the last point's three outputs are `tokOf`, `marginOf` and `topOf` of them.
-/
module

public import proofs.«01_k».proof.Proof.Tile
public import Idealize.ShloMosaic.Lib.Pipeline.ReadBack

@[expose] public section

set_option maxRecDepth 100000

noncomputable section

open Idealize.ShloMosaic Idealize.ShloMosaic.TcCoe Idealize.SL.Sem

namespace Cert.KernelIdeal.Steps

open Cert.KernelIdeal Cert.KernelIdeal.Gen Cert.KernelIdeal.Tile Cert.KernelIdeal.Value

variable {F : FTy → Type} [FloatOps F]

/-- The three carried arrays: greatest, second, 128-column block of the greatest. -/
abbrev St (F : FTy → Type) : Type := Vec F S192x128 .f32 × Vec F S192x128 .f32 × Vec F S192x128 .i32

/-- The arrays the first point starts from. -/
def start : St F := (k0_pay8, k0_pay9, k0_pay10)

/-- A point's full record: the three outputs' blocks, then the carried arrays. -/
abbrev StAt (F : FTy → Type) : Type :=
  Vec F S192x1 .i32 × Vec F S192x1 .f32 × Vec F S192x1 .f32 × Vec F S192x128 .f32 × Vec F S192x128 .f32 × Vec F S192x128 .i32

/-- The carried arrays inside a point's full record of arrays. -/
def carried (a : StAt F) : St F := (a.2.2.2.1, a.2.2.2.2.1, a.2.2.2.2.2)

/-- The logits of point `t`'s block. -/
def logitsAt (m : (ℓ : Loc nD τ sig) → Buf (Elt F) ℓ) (c : Dev nD) (t : Fin cfg0.N) : FVec F S192x512 .f32 :=
  acc (iblk m c 0 t) (iblk m c 1 t) (iblk m c 2 t) 20 le_rfl

/-- The carried arrays after point `t`, from those before it. -/
def stepAt (m : (ℓ : Loc nD τ sig) → Buf (Elt F) ℓ) (c : Dev nD) (t : Fin cfg0.N) (s : St F) : St F :=
  lanes (BitVec.ofNat 32 ((grid0.coords t) 0).val) (logitsAt m c t) s 4 le_rfl

/-- The first point: from the starting arrays. -/
theorem carried_A (m : (ℓ : Loc nD τ sig) → Buf (Elt F) ℓ) (c : Dev nD) (t : Fin cfg0.N) (a : StAt F)
    (h0 : t.val % 37 = 0) (h1 : ¬ t.val % 37 = 36) : carried (stAt0 m c t.val t.isLt a) = stepAt m c t start := by
  rw [stAt0_A m c t _ h0 h1]
  unfold carried
  frame_out
  simp only [k0_pay1, k0_pay2, k0_pay3, k0_pay38, k0_pay39, k0_pay40, k0_pay41, k0_pay42, k0_pay43, k0_pay44, k0_pay45,
    k0_pay46, k0_pay47, acc_eq, shapeCast_self, read_unread_whole]
  rfl

/-- A point in the middle: from the arrays carried in. -/
theorem carried_B (m : (ℓ : Loc nD τ sig) → Buf (Elt F) ℓ) (c : Dev nD) (t : Fin cfg0.N) (a : StAt F)
    (h0 : ¬ t.val % 37 = 0) (h1 : ¬ t.val % 37 = 36) : carried (stAt0 m c t.val t.isLt a) = stepAt m c t (carried a) := by
  obtain ⟨a0, a1, a2, s0, s1, s2⟩ := a
  rw [stAt0_B m c t _ h0 h1]
  unfold carried
  frame_out
  simp only [k0_pay1, k0_pay2, k0_pay3, k0_pay38, k0_pay39, k0_pay40, k0_pay41, k0_pay42, k0_pay43, k0_pay44, k0_pay45,
    k0_pay46, k0_pay47, acc_eq, shapeCast_self, read_unread_whole]
  rfl

/-- The last point's first output: the token, from the carried arrays it has just stored. -/
theorem tok_C (m : (ℓ : Loc nD τ sig) → Buf (Elt F) ℓ) (c : Dev nD) (t : Fin cfg0.N) (a : StAt F)
    (h0 : ¬ t.val % 37 = 0) (h1 : t.val % 37 = 36) :
    (stAt0 m c t.val t.isLt a).1 = k0_pay6 (stepAt m c t (carried a)).2.2 (stepAt m c t (carried a)).1 := by
  obtain ⟨a0, a1, a2, s0, s1, s2⟩ := a
  rw [stAt0_C m c t _ h0 h1]
  unfold carried
  frame_out
  simp only [k0_pay1, k0_pay2, k0_pay3, k0_pay38, k0_pay39, k0_pay40, k0_pay41, k0_pay42, k0_pay43, k0_pay44, k0_pay45,
    k0_pay46, k0_pay47, acc_eq, shapeCast_self, read_unread_whole]
  rfl

/-- The last point's second output: the margin. -/
theorem margin_C (m : (ℓ : Loc nD τ sig) → Buf (Elt F) ℓ) (c : Dev nD) (t : Fin cfg0.N) (a : StAt F)
    (h0 : ¬ t.val % 37 = 0) (h1 : t.val % 37 = 36) :
    (stAt0 m c t.val t.isLt a).2.1
      = k0_pay7 (stepAt m c t (carried a)).2.2 (stepAt m c t (carried a)).1 (stepAt m c t (carried a)).2.1 := by
  obtain ⟨a0, a1, a2, s0, s1, s2⟩ := a
  rw [stAt0_C m c t _ h0 h1]
  unfold carried
  frame_out
  simp only [k0_pay1, k0_pay2, k0_pay3, k0_pay38, k0_pay39, k0_pay40, k0_pay41, k0_pay42, k0_pay43, k0_pay44, k0_pay45,
    k0_pay46, k0_pay47, acc_eq, shapeCast_self, read_unread_whole]
  rfl

/-- The last point's third output: the greatest logit. -/
theorem top_C (m : (ℓ : Loc nD τ sig) → Buf (Elt F) ℓ) (c : Dev nD) (t : Fin cfg0.N) (a : StAt F)
    (h0 : ¬ t.val % 37 = 0) (h1 : t.val % 37 = 36) :
    (stAt0 m c t.val t.isLt a).2.2.1 = k0_pay5 (stepAt m c t (carried a)).1 := by
  obtain ⟨a0, a1, a2, s0, s1, s2⟩ := a
  rw [stAt0_C m c t _ h0 h1]
  unfold carried
  frame_out
  simp only [k0_pay1, k0_pay2, k0_pay3, k0_pay38, k0_pay39, k0_pay40, k0_pay41, k0_pay42, k0_pay43, k0_pay44, k0_pay45,
    k0_pay46, k0_pay47, acc_eq, shapeCast_self, read_unread_whole]
  rfl

end Cert.KernelIdeal.Steps
-- ==== Proof.Block.lean ====
/-
  WHAT ONE BLOCK COMPUTES, at the ideal values: `acc_apply` reads a block's logits at an index as sums of the block's own
  activations, codes and scales.
-/
module

public import proofs.«01_k».proof.Proof.Tile
public import proofs.«01_k».proof.Proof.Logits

@[expose] public section

noncomputable section

open Idealize.ShloMosaic Idealize.ShloMosaic.TcCoe Idealize.SL.Sem Idealize.ShloMosaic.ValueIdx

namespace Cert.KernelIdeal.Block

open Cert.KernelIdeal Cert.KernelIdeal.Gen Cert.KernelIdeal.Tile Cert.Logits

/-- The low four bits of a byte with its top bits of each nibble flipped, read as a signed 4-bit number: the low nibble less 8. -/
theorem low_code (b : BitVec 8) :
    ((((b ^^^ 136#8).setWidth 32 &&& 15#32).setWidth 4).toInt : ℤ) = (nibble b 0 : ℤ) - 8 := by
  revert b; decide +kernel

/-- The same for the high nibble, shifted down. -/
theorem high_code (b : BitVec 8) :
    (((((b ^^^ 136#8).setWidth 32).sshiftRight 4).setWidth 4).toInt : ℤ) = (nibble b 1 : ℤ) - 8 := by
  revert b; decide +kernel

theorem bytes_apply (w : Vec Ideal S512x128 .i8) (b : Fin 128) (j : Fin 512) :
    bytes (F := Ideal) w (ix2 b j) = (w (ix2 j b) ^^^ 136#8).setWidth 32 := by
  have ht : transpose S128x512 [1, 0] w transposes_S512x128_p1_0_S128x512 (ix2 b j) = w (ix2 j b) :=
    transpose_apply _ _ _ _ _ (fun a => match a with | ⟨0, _⟩ => rfl | ⟨1, _⟩ => rfl)
  rw [← ht]; rfl

theorem unit_apply (y : IVec S128x512 32) (b : Fin 128) (j : Fin 512) :
    shapeCast S128x1x512 y shapeCasts_S128x512_S128x1x512 (ix3 b 0 j) = y (ix2 b j) :=
  shapeCast_apply y _ _ _ ((rowMajor2 b j).trans (by rw [rowMajor3]; simp))

theorem pairs_low (w : Vec Ideal S512x128 .i8) (b : Fin 128) (j : Fin 512) :
    pairs (F := Ideal) w (ix3 b 0 j) = (w (ix2 j b) ^^^ 136#8).setWidth 32 &&& 15#32 :=
  (concatenate_pair_apply_left (t := S128x2x512) (s₁ := S128x1x512) (s₂ := S128x1x512) 1 _ _
    concatenates_S128x1x512_S128x1x512_S128x2x512_d1 (ix3 b 0 j) rfl (ix3 b 0 j) (fun a => match a with
      | ⟨0, _⟩ => rfl
      | ⟨1, _⟩ => rfl
      | ⟨2, _⟩ => rfl)).trans ((unit_apply _ b j).trans (congrArg (· &&& 15#32) (bytes_apply w b j)))

theorem pairs_high (w : Vec Ideal S512x128 .i8) (b : Fin 128) (j : Fin 512) :
    pairs (F := Ideal) w (ix3 b 1 j) = ((w (ix2 j b) ^^^ 136#8).setWidth 32).sshiftRight 4 :=
  (concatenate_pair_apply_right (t := S128x2x512) (s₁ := S128x1x512) (s₂ := S128x1x512) 1 _ _
    concatenates_S128x1x512_S128x1x512_S128x2x512_d1 (ix3 b 1 j) rfl rfl (ix3 b 0 j) (fun a => match a with
      | ⟨0, _⟩ => fun _ => rfl
      | ⟨1, _⟩ => fun h => absurd rfl h
      | ⟨2, _⟩ => fun _ => rfl) rfl).trans ((unit_apply _ b j).trans (congrArg (·.sshiftRight 4) (bytes_apply w b j)))

/-- Row `2 b + u` of the codes is nibble `u` of byte `b`. -/
theorem codes_row (w : Vec Ideal S512x128 .i8) (p : Fin 256) (b : Fin 128) (u : Fin 2) (j : Fin 512) (h : p.val = 2 * b.val + u.val) :
    codes (F := Ideal) w (ix2 p j) = (pairs (F := Ideal) w (ix3 b u j)).setWidth 4 :=
  congrArg (BitVec.setWidth 4) (shapeCast_apply (pairs (F := Ideal) w) shapeCasts_S128x2x512_S256x512 (ix2 p j) (ix3 b u j)
    ((rowMajor3 b u j).trans (by rw [rowMajor2, h]; ring)))

/-- The signed code in row `p` of a slab's transposed codes is that of byte `p / 2`, nibble `p % 2`. -/
theorem codes_toInt (w : Vec Ideal S512x128 .i8) (p : Fin 256) (j : Fin 512) :
    ((codes (F := Ideal) w (ix2 p j)).toInt : ℤ) = (nibble (w (ix2 j (⟨p.val / 2, by omega⟩ : Fin 128))) p.val : ℤ) - 8 := by
  rcases Nat.mod_two_eq_zero_or_one p.val with h | h
  · rw [codes_row w p ⟨p.val / 2, by omega⟩ 0 j (by show p.val = 2 * (p.val / 2) + 0; omega), pairs_low, low_code]
    simp [nibble, h]
  · rw [codes_row w p ⟨p.val / 2, by omega⟩ 1 j (by show p.val = 2 * (p.val / 2) + 1; omega), pairs_high, high_code]
    simp [nibble, h]

/-- The scaled code in row `p`, column `j`. -/
theorem weights_apply (s : FVec Ideal S8x512 .bf16) (w : Vec Ideal S512x128 .i8) (p : Fin 256) (j : Fin 512) :
    weights s w (ix2 p j) = code (w (ix2 j (⟨p.val / 2, by omega⟩ : Fin 128))) p.val * s (ix2 (⟨p.val / 32, by omega⟩ : Fin 8) j) := by
  have hp : p.val = (p.val / 32) * 32 + p.val % 32 := by omega
  refine (shapeCast_apply _ shapeCasts_S8x32x512_S256x512 (ix2 p j) (ix3 (⟨p.val / 32, by omega⟩ : Fin 8) (⟨p.val % 32, by omega⟩ : Fin 32) j)
    ((rowMajor3 _ _ j).trans (by rw [rowMajor2]; dsimp only; rw [← hp]))).trans ?_
  rw [mulf_apply]
  congr 1
  · refine (shapeCast_apply _ shapeCasts_S256x512_S8x32x512 _ (ix2 p j)
      ((rowMajor2 p j).trans (by rw [rowMajor3]; dsimp only; rw [← hp]))).trans ?_
    show (((codes (F := Ideal) w (ix2 p j)).toInt : ℝ) : EReal) = _
    rw [codes_toInt]; rfl
  · refine (broadcastTo_apply _ broadcasts_S8x1x512_S8x32x512 _ (ix3 (⟨p.val / 32, by omega⟩ : Fin 8) (0 : Fin 1) j) (fun a => match a with
      | ⟨0, _⟩ => rfl
      | ⟨1, _⟩ => rfl
      | ⟨2, _⟩ => rfl)).trans ?_
    exact shapeCast_apply s shapeCasts_S8x512_S8x1x512 _ _ ((rowMajor2 _ j).trans (by rw [rowMajor3]; simp))

/-- One product at row `r`, column `j`: the sum of its 256 terms. -/
theorem tile_apply (s : FVec Ideal S8x512 .bf16) (w : Vec Ideal S512x128 .i8) (x : Vec Ideal S192x256 .bf16) (r : Fin 192) (j : Fin 512) :
    tile s w x (ix2 r j) = ∑ p : Fin 256, x (ix2 r p) *
      (code (w (ix2 j (⟨p.val / 2, by omega⟩ : Fin 128))) p.val * s (ix2 (⟨p.val / 32, by omega⟩ : Fin 8) j)) := by
  unfold tile
  simp only [matmul, shapeCast_self]
  rw [Ideal.matmul_constant_zero_apply]
  rw [← Equiv.sum_comp (contrEquiv1 dot_S192x256_S256x512_S192x512_1_0_0_1_n_n 256 rfl rfl).symm]
  refine Finset.sum_congr rfl fun p _ => ?_
  have hk := contrEquiv1_symm_val dot_S192x256_S256x512_S192x512_1_0_0_1_n_n 256 rfl rfl p
  rw [← weights_apply]
  congr 1
  · refine congrArg x (funext fun a => Fin.ext ?_)
    match a with
    | ⟨0, _⟩ => rfl
    | ⟨1, _⟩ => exact hk

/-- Row `r` of a block's activations, row `j` of its packed codes and of its scales, by natural-number column. -/
def xRow (x0 : Vec Ideal S192x5120 .bf16) (r : Fin 192) (d : ℕ) : EReal := x0 (ix2 r (Fin.ofNat 5120 d))
@[inherit_doc xRow] def wRow (x1 : Vec Ideal S512x2560 .i8) (j : Fin 512) (b : ℕ) : BitVec 8 := x1 (ix2 j (Fin.ofNat 2560 b))
@[inherit_doc xRow] def sRow (x2 : Vec Ideal S512x160 .bf16) (j : Fin 512) (g : ℕ) : EReal := x2 (ix2 j (Fin.ofNat 160 g))

/-- The `k`-th product at row `r`, column `j`: the terms of columns `256 k` to `256 k + 255`. -/
theorem tileAt_apply (x0 : Vec Ideal S192x5120 .bf16) (x1 : Vec Ideal S512x2560 .i8) (x2 : Vec Ideal S512x160 .bf16) (k : ℕ) (h : k < 20)
    (r : Fin 192) (j : Fin 512) :
    tileAt x0 x1 x2 k h (ix2 r j) = ∑ p ∈ Finset.range 256, term (xRow x0 r) (wRow x1 j) (sRow x2 j) (256 * k + p) := by
  unfold tileAt
  rw [tile_apply, Finset.sum_range]
  refine Finset.sum_congr rfl fun p _ => ?_
  have hp := p.isLt
  unfold term
  congr 1
  · rw [View.ld_apply]
    refine congrArg x0 (funext fun a => Fin.ext ?_)
    match a with
    | ⟨0, _⟩ => show 0 + 1 * r.val = r.val; omega
    | ⟨1, _⟩ => show 256 * k + 1 * p.val = (256 * k + p.val) % 5120; omega
  · congr 1
    · have e : View.ld x1 (Rect.unit ![0, 128 * k] ![512, 128] (inb_w h)) (ix2 j (⟨p.val / 2, by omega⟩ : Fin 128))
          = wRow x1 j ((256 * k + p.val) / 2) := by
        rw [View.ld_apply]
        refine congrArg x1 (funext fun a => Fin.ext ?_)
        match a with
        | ⟨0, _⟩ => show 0 + 1 * j.val = j.val; omega
        | ⟨1, _⟩ => show 128 * k + 1 * (p.val / 2) = ((256 * k + p.val) / 2) % 2560; omega
      rw [e]
      unfold code nibble
      rw [show (256 * k + p.val) % 2 = p.val % 2 by omega]
    · refine (extractStridedSlice_apply _ _ (slices_scale h) _ (ix2 (⟨8 * k + p.val / 32, by omega⟩ : Fin 160) j) (fun a => match a with
        | ⟨0, _⟩ => rfl
        | ⟨1, _⟩ => (Nat.zero_add _).symm)).trans ?_
      refine (transpose_apply _ _ _ _ (ix2 j (⟨8 * k + p.val / 32, by omega⟩ : Fin 160)) (fun a => match a with
        | ⟨0, _⟩ => rfl
        | ⟨1, _⟩ => rfl)).trans ?_
      refine congrArg x2 (funext fun a => Fin.ext ?_)
      match a with
      | ⟨0, _⟩ => rfl
      | ⟨1, _⟩ => show 8 * k + p.val / 32 = ((256 * k + p.val) / 32) % 160; omega

/-- The sum of the first `n` products at row `r`, column `j`: the terms of the first `256 n` columns. -/
theorem acc_apply (x0 : Vec Ideal S192x5120 .bf16) (x1 : Vec Ideal S512x2560 .i8) (x2 : Vec Ideal S512x160 .bf16) (r : Fin 192) (j : Fin 512) :
    (n : ℕ) → (h : n ≤ 20) →
      acc x0 x1 x2 n h (ix2 r j) = ∑ d ∈ Finset.range (256 * n), term (xRow x0 r) (wRow x1 j) (sRow x2 j) d
  | 0, _ => by
    show Ideal.ofBits .f32 0x00000000#32 = _
    rw [Ideal.ofBits_zero_f32]; rfl
  | n + 1, h => by
    show acc x0 x1 x2 n _ (ix2 r j) + tileAt x0 x1 x2 n h (ix2 r j) = _
    rw [acc_apply x0 x1 x2 r j n (Nat.le_of_succ_le h), tileAt_apply, Nat.mul_succ, Finset.sum_range_add]

/-- A block's logits at row `r`, column `j`. -/
theorem block_apply (x0 : Vec Ideal S192x5120 .bf16) (x1 : Vec Ideal S512x2560 .i8) (x2 : Vec Ideal S512x160 .bf16) (r : Fin 192) (j : Fin 512) :
    acc x0 x1 x2 20 le_rfl (ix2 r j) = logit (xRow x0 r) (wRow x1 j) (sRow x2 j) :=
  acc_apply x0 x1 x2 r j 20 le_rfl

end Cert.KernelIdeal.Block
-- ==== Proof.Arrays.lean ====
/-
  WHICH LOGITS A GRID POINT COMPUTES: its three blocks read from the argument arrays, so `logits_apply`: point `t`'s block
  holds, at row `r` and column `j`, the logit of row `r` and vocabulary row `512 t + j`.
-/
module

public import proofs.«01_k».proof.Proof.Steps
public import proofs.«01_k».proof.Proof.Block
public import Idealize.ShloMosaic.Lib.StableHlo.Run

@[expose] public section

noncomputable section

open Idealize.ShloMosaic Idealize.ShloMosaic.TcCoe Idealize.SL.Sem Idealize.ShloMosaic.ValueIdx

namespace Cert.KernelIdeal.Arrays

open Cert.KernelIdeal Cert.KernelIdeal.Gen Cert.KernelIdeal.Tile Cert.KernelIdeal.Block Cert.KernelIdeal.Steps Cert.Logits

variable (m : (ℓ : Loc nD τ sig) → Buf (Elt Ideal) ℓ) (c : Dev nD)

/-- Row `r` of the activations, row `v` of the packed codes and of the scales, as launched, by natural-number column. -/
def xArg (r : Fin 192) (d : ℕ) : EReal := m ((c : Thread nD τ).loc main_arg0) (ix3 r (0 : Fin 1) (Fin.ofNat 5120 d))
@[inherit_doc xArg] def wArg (v b : ℕ) : BitVec 8 := m ((c : Thread nD τ).loc main_arg1) (ix2 (Fin.ofNat 18944 v) (Fin.ofNat 2560 b))
@[inherit_doc xArg] def sArg (v g : ℕ) : EReal := m ((c : Thread nD τ).loc main_arg2) (ix2 (Fin.ofNat 18944 v) (Fin.ofNat 160 g))

/-- The logit of row `r` and vocabulary row `v`. -/
def L (r : Fin 192) (v : ℕ) : EReal := logit (xArg m c r) (wArg m c v) (sArg m c v)

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
/-- A point's one grid coordinate is its number. -/
theorem coords_val : ∀ t : Fin cfg0.N, ((grid0.coords t) 0).val = t.val :=
  (by decide +kernel : ∀ t : Fin grid0.N, _)

/-- The reshaped activations at row `r`, column `d`. -/
theorem V_main_v0 (r : Fin 192) (d : Fin 5120) :
    V m c main_v0 (ix2 r d) = m ((c : Thread nD τ).loc main_arg0) (ix3 r (0 : Fin 1) d) := by
  have e : V m c main_v0 = shapeCast S192x5120 (m ((c : Thread nD τ).loc main_arg0)) shapeCasts_S192x1x5120_S192x5120 := by
    show StableHlo.after [StableHlo.reshape main_arg0 main_v0 (rfl : (.bf16 : EltTy) = .bf16) shapeCasts_S192x1x5120_S192x5120] _ main_v0 = _
    after_results
    rfl
  rw [e]
  exact shapeCast_apply _ _ _ _ ((rowMajor3 _ _ _).trans (by rw [rowMajor2]; simp))

theorem iblk0 (t : Fin cfg0.N) (r : Fin 192) : xRow (iblk m c 0 t) r = xArg m c r := by
  funext d
  have hi := index0 t
  unfold xRow xArg
  refine Eq.trans ?_ (V_main_v0 m c r (Fin.ofNat 5120 d))
  unfold iblk
  rw [View.read_apply]
  show V m c main_v0 _ = _
  refine congrArg (V m c main_v0) (funext fun a => Fin.ext ?_)
  match a with
  | ⟨0, _⟩ => show win0_0.index t (0 : Fin 2) * 192 + 1 * r.val = r.val; rw [hi.1]; omega
  | ⟨1, _⟩ => show win0_0.index t (1 : Fin 2) * 5120 + 1 * (d % 5120) = d % 5120; rw [hi.2]; omega

theorem iblk1 (t : Fin cfg0.N) (j : Fin 512) : wRow (iblk m c 1 t) j = wArg m c (512 * t.val + j.val) := by
  funext b
  have hi := index1 t
  have ht : t.val < 37 := lt_of_lt_of_eq t.isLt N_0
  have hj := j.isLt
  unfold wRow wArg iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 512 + 1 * j.val = (512 * t.val + j.val) % 18944; rw [hi.1]; omega
  | ⟨1, _⟩ => show win0_1.index t (1 : Fin 2) * 2560 + 1 * (b % 2560) = b % 2560; rw [hi.2]; omega

theorem iblk2 (t : Fin cfg0.N) (j : Fin 512) : sRow (iblk m c 2 t) j = sArg m c (512 * t.val + j.val) := by
  funext g
  have hi := index2 t
  have ht : t.val < 37 := lt_of_lt_of_eq t.isLt N_0
  have hj := j.isLt
  unfold sRow sArg iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 512 + 1 * j.val = (512 * t.val + j.val) % 18944; rw [hi.1]; omega
  | ⟨1, _⟩ => show win0_2.index t (1 : Fin 2) * 160 + 1 * (g % 160) = g % 160; rw [hi.2]; omega

/-- Point `t`'s block of logits at row `r`, column `j`. -/
theorem logits_apply (t : Fin cfg0.N) (r : Fin 192) (j : Fin 512) :
    logitsAt m c t (ix2 r j) = L m c r (512 * t.val + j.val) := by
  refine (block_apply _ _ _ r j).trans ?_
  rw [iblk0, iblk1, iblk2]; rfl

end Cert.KernelIdeal.Arrays
-- ==== Proof.Fold.lean ====
/-
  WHAT THE CARRIED ARRAYS HOLD, by induction over the grid points: after point `t`, at row `r` and lane `l`, the greatest
  logit among the vocabulary rows `l, 128 + l, …` seen so far, the second greatest and the 128-row block of the greatest
  (`fold_good`).
-/
module

public import proofs.«01_k».proof.Proof.Arrays
public import proofs.«01_k».proof.Proof.Top1

@[expose] public section

noncomputable section

open Idealize.ShloMosaic Idealize.ShloMosaic.TcCoe Idealize.SL.Sem Idealize.ShloMosaic.ValueIdx

namespace Cert.KernelIdeal.Fold

open Cert.KernelIdeal Cert.KernelIdeal.Gen Cert.KernelIdeal.Value Cert.KernelIdeal.Tile Cert.KernelIdeal.Steps Cert.KernelIdeal.Arrays Cert.Top1

variable (m : (ℓ : Loc nD τ sig) → Buf (Elt Ideal) ℓ) (c : Dev nD)

/-- A row's values `f`, one lane of them after `n` blocks of 128 columns, as the three carried arrays hold it. Before the first
    block: both values at the bottom, block 0. -/
def Good (f : ℕ → EReal) (r : Fin 192) (l : Fin 128) (n : ℕ) (s : St Ideal) : Prop :=
  (n = 0 ∧ s.1 (ix2 r l) = ⊥ ∧ s.2.1 (ix2 r l) = ⊥ ∧ s.2.2 (ix2 r l) = 0#32) ∨
    ∃ k, s.2.2 (ix2 r l) = BitVec.ofNat 32 k ∧ LaneBest (fun t => f (128 * t + l.val)) n (s.1 (ix2 r l)) (s.2.1 (ix2 r l)) k

/-- One chunk more: the lane's next value is taken in. -/
theorem good_step {f : ℕ → EReal} {r : Fin 192} {l : Fin 128} {n : ℕ} {s : St Ideal} (h : Good f r l n s) (v : FVec Ideal S192x128 .f32)
    (w : BitVec 32) (hv : v (ix2 r l) = f (128 * n + l.val)) (hw : w = BitVec.ofNat 32 n) :
    Good f r l (n + 1) (maximumf (φ := .f32) s.1 v, maximumf (φ := .f32) s.2.1 (minimumf (φ := .f32) s.1 v),
      select (cmpf (φ := .f32) .ogt v s.1) (broadcast S192x128 w) s.2.2) := by
  have e1 : maximumf (φ := .f32) s.1 v (ix2 r l) = max (s.1 (ix2 r l)) (f (128 * n + l.val)) := by rw [← hv]; rfl
  have e2 : maximumf (φ := .f32) s.2.1 (minimumf (φ := .f32) s.1 v) (ix2 r l)
      = max (s.2.1 (ix2 r l)) (min (s.1 (ix2 r l)) (f (128 * n + l.val))) := by rw [← hv]; rfl
  have e3 : select (cmpf (φ := .f32) .ogt v s.1) (broadcast S192x128 w) s.2.2 (ix2 r l)
      = if s.1 (ix2 r l) < f (128 * n + l.val) then BitVec.ofNat 32 n else s.2.2 (ix2 r l) := by
    rw [← hv, ← hw]
    show Scalar.select (BitVec.ofBool (decide (s.1 (ix2 r l) < v (ix2 r l)))) w (s.2.2 (ix2 r l)) = _
    by_cases h : s.1 (ix2 r l) < v (ix2 r l)
    · rw [if_pos h, decide_eq_true h]; rfl
    · rw [if_neg h, decide_eq_false h]; rfl
  rcases h with ⟨rfl, h1, h2, h3⟩ | ⟨k, hk, hb⟩
  · refine Or.inr ⟨0, ?_, ?_⟩
    · dsimp only
      rw [e3, h3]
      split_ifs <;> rfl
    · dsimp only
      rw [e1, e2, h1, h2]
      have := LaneBest.one (fun t => f (128 * t + l.val))
      simpa only [ite_self] using this
  · refine Or.inr ⟨if s.1 (ix2 r l) < f (128 * n + l.val) then n else k, ?_, ?_⟩
    · dsimp only
      rw [e3, hk]
      split_ifs <;> rfl
    · dsimp only
      rw [e1, e2]
      exact hb.step

/-- The chunks of a block whose logits are `f` from column `512 t` on. -/
theorem good_lanes {f : ℕ → EReal} {r : Fin 192} {l : Fin 128} {t : ℕ} (ht : t < 37) {s : St Ideal} (h : Good f r l (4 * t) s)
    (a : FVec Ideal S192x512 .f32) (ha : ∀ j : Fin 512, a (ix2 r j) = f (512 * t + j.val)) :
    (n : ℕ) → (hn : n ≤ 4) → Good f r l (4 * t + n) (lanes (BitVec.ofNat 32 t) a s n hn)
  | 0, _ => h
  | n + 1, hn => by
    refine good_step (good_lanes ht h a ha n (Nat.le_of_succ_le hn)) (chunk a n hn) _ ?_ ?_
    · have hl := l.isLt
      refine (extractStridedSlice_apply _ _ (slices_chunk hn) _ (ix2 r (⟨128 * n + l.val, by omega⟩ : Fin 512)) (fun b => match b with
        | ⟨0, _⟩ => (Nat.zero_add _).symm
        | ⟨1, _⟩ => rfl)).trans ?_
      rw [ha]
      congr 1
      show 512 * t + (128 * n + l.val) = _
      ring
    · show BitVec.ofNat 32 t * 4#32 + BitVec.ofNat 32 n = _
      rw [show (4#32 : BitVec 32) = BitVec.ofNat 32 4 from rfl, ← BitVec.ofNat_mul, ← BitVec.ofNat_add, Nat.mul_comm]

/-- The starting arrays. -/
theorem good_start (f : ℕ → EReal) (r : Fin 192) (l : Fin 128) : Good f r l 0 start := by
  have e : (Ideal.ofBits .f32 0xFF800000#32 : EReal) = ⊥ := by
    simp [Ideal.ofBits, Ideal.ieee, -EReal.coe_mul]
  refine Or.inl ⟨rfl, e, e, rfl⟩

/-- One grid point. -/
theorem good_stepAt (t : Fin cfg0.N) (r : Fin 192) (l : Fin 128) (s : St Ideal) (h : Good (L m c r) r l (4 * t.val) s) :
    Good (L m c r) r l (4 * (t.val + 1)) (stepAt m c t s) := by
  have ht : t.val < 37 := lt_of_lt_of_eq t.isLt N_0
  unfold stepAt
  rw [coords_val]
  exact good_lanes ht h _ (logits_apply m c t r) 4 le_rfl

/-- The record of arrays after point `t`. -/
def after (t : ℕ) (h : t < cfg0.N) : StAt Ideal :=
  Pipeline.accAt (fun n h => stAt0 m c n h junk0) (stAt0 m c) 0 t (by omega)

theorem after_succ (t : ℕ) (h : t + 1 < cfg0.N) :
    after m c (t + 1) h = stAt0 m c (t + 1) h (after m c t (Nat.lt_of_succ_lt h)) := by
  have e : ∀ (n : ℕ) (hn : n < cfg0.N) (hm : n = t + 1) (x : StAt Ideal), stAt0 m c n hn x = stAt0 m c (t + 1) h x := by
    rintro _ _ rfl _; rfl
  exact e (0 + (t + 1)) _ (Nat.zero_add _) _

/-- The carried arrays after a point before the last. -/
theorem fold_good (r : Fin 192) (l : Fin 128) :
    (t : ℕ) → (h : t < cfg0.N) → t < 36 → Good (L m c r) r l (4 * (t + 1)) (carried (after m c t h))
  | 0, h, _ => by
    have e : after m c 0 h = stAt0 m c 0 h junk0 := rfl
    rw [e, carried_A m c ⟨0, h⟩ _ rfl (by show ¬ 0 % 37 = 36; decide)]
    exact good_stepAt m c ⟨0, h⟩ r l start (good_start _ r l)
  | t + 1, h, h36 => by
    rw [after_succ, carried_B m c ⟨t + 1, h⟩ _ (by show ¬ (t + 1) % 37 = 0; omega) (by show ¬ (t + 1) % 37 = 36; omega)]
    exact good_stepAt m c ⟨t + 1, h⟩ r l _ (fold_good r l t (Nat.lt_of_succ_lt h) (by omega))

theorem lt36 : 36 < cfg0.N := lt_of_lt_of_eq (by decide) N_0.symm

/-- The carried arrays the last point finds. -/
def before : St Ideal := carried (after m c 35 (Nat.lt_of_succ_lt lt36))

/-- The arrays the last point stores. -/
def last : St Ideal := stepAt m c ⟨36, lt36⟩ (before m c)

/-- Every lane, all 148 blocks. -/
theorem last_good (r : Fin 192) (l : Fin 128) : ∃ k, (last m c).2.2 (ix2 r l) = BitVec.ofNat 32 k ∧
    LaneBest (fun t => L m c r (128 * t + l.val)) 148 ((last m c).1 (ix2 r l)) ((last m c).2.1 (ix2 r l)) k := by
  rcases good_stepAt m c ⟨36, lt36⟩ r l _ (fold_good m c r l 35 _ (by decide)) with ⟨h, _⟩ | h
  · exact absurd h (by decide)
  · exact h

/-- The last point's outputs are those of the arrays it stores. -/
theorem out_last (a : StAt Ideal) :
    (stAt0 m c 36 lt36 a).1 = k0_pay6 (stepAt m c ⟨36, lt36⟩ (carried a)).2.2 (stepAt m c ⟨36, lt36⟩ (carried a)).1
      ∧ (stAt0 m c 36 lt36 a).2.1 = k0_pay7 (stepAt m c ⟨36, lt36⟩ (carried a)).2.2 (stepAt m c ⟨36, lt36⟩ (carried a)).1 (stepAt m c ⟨36, lt36⟩ (carried a)).2.1
      ∧ (stAt0 m c 36 lt36 a).2.2.1 = k0_pay5 (stepAt m c ⟨36, lt36⟩ (carried a)).1 :=
  have h0 : ¬ (⟨36, lt36⟩ : Fin cfg0.N).val % 37 = 0 := by show ¬ 36 % 37 = 0; decide
  have h1 : (⟨36, lt36⟩ : Fin cfg0.N).val % 37 = 36 := by show 36 % 37 = 36; decide
  ⟨tok_C m c ⟨36, lt36⟩ a h0 h1, margin_C m c ⟨36, lt36⟩ a h0 h1, top_C m c ⟨36, lt36⟩ a h0 h1⟩

theorem after_last : after m c 36 lt36 = stAt0 m c 36 lt36 (after m c 35 (Nat.lt_of_succ_lt lt36)) := after_succ m c 35 lt36

theorem after_out :
    (after m c 36 lt36).1 = k0_pay6 (last m c).2.2 (last m c).1
      ∧ (after m c 36 lt36).2.1 = k0_pay7 (last m c).2.2 (last m c).1 (last m c).2.1
      ∧ (after m c 36 lt36).2.2.1 = k0_pay5 (last m c).1 := by
  have h := out_last m c (after m c 35 (Nat.lt_of_succ_lt lt36))
  rw [← after_last] at h
  unfold last before
  generalize after m c 36 lt36 = a at h ⊢
  generalize after m c 35 (Nat.lt_of_succ_lt lt36) = b at h ⊢
  exact h

/-- The kernel's three results, of the arrays the last point stores. -/
theorem G3_eq : G3 m c = k0_pay6 (last m c).2.2 (last m c).1 := by
  refine Eq.trans ?_ (after_out m c).1
  rw [G3_last m c, after]
theorem G4_eq : G4 m c = k0_pay7 (last m c).2.2 (last m c).1 (last m c).2.1 := by
  refine Eq.trans ?_ (after_out m c).2.1
  rw [G4_last m c, after]
theorem G5_eq : G5 m c = k0_pay5 (last m c).1 := by
  refine Eq.trans ?_ (after_out m c).2.2
  rw [G5_last m c, after]

end Cert.KernelIdeal.Fold
-- ==== Proof.Results.lean ====
/-
  THE KERNEL'S THREE RESULTS: the last point's reduction over the 128 lanes of each row gives the row's first greatest
  vocabulary row, the difference of its greatest and second greatest logits, and its greatest logit.
-/
module

public import proofs.«01_k».proof.Proof.Fold

@[expose] public section

noncomputable section

open Idealize.ShloMosaic Idealize.ShloMosaic.TcCoe Idealize.SL.Sem Idealize.ShloMosaic.ValueIdx

namespace Cert.KernelIdeal.Results

open Cert.KernelIdeal Cert.KernelIdeal.Gen Cert.KernelIdeal.Steps Cert.KernelIdeal.Arrays Cert.KernelIdeal.Fold Cert.Logits Cert.Top1
open Finset

/-- A maximum from the bottom over `Fin n` is the supremum over `range n`. -/
theorem fold_max_eq_sup {n : ℕ} (g : Fin n → EReal) (G : ℕ → EReal) (h : ∀ k : Fin n, g k = G k.val) :
    (univ : Finset (Fin n)).fold max ⊥ g = (range n).sup G := by
  have e : (univ : Finset (Fin n)).fold max ⊥ g = univ.sup g := rfl
  rw [e]
  apply le_antisymm
  · refine Finset.sup_le fun k _ => ?_
    rw [h]; exact le_sup (f := G) (mem_range.2 k.isLt)
  · refine Finset.sup_le fun k hk => ?_
    have := h ⟨k, mem_range.1 hk⟩
    show G (⟨k, mem_range.1 hk⟩ : Fin n).val ≤ _
    rw [← this]
    exact le_sup (f := g) (mem_univ _)

/-- The pattern of minus infinity is the bottom. -/
theorem neg_inf : (FloatOps.ofBits (F := Ideal) .f32 0xFF800000#32 : EReal) = ⊥ := by
  show Ideal.ofBits .f32 0xFF800000#32 = _
  simp [Ideal.ofBits, Ideal.ieee, -EReal.coe_mul]

/-- A row's maximum over the lanes, read in a column. -/
theorem laneMax_apply (x : FVec Ideal S192x128 .f32) (r : Fin 192) (G : ℕ → EReal) (h : ∀ l : Fin 128, x (ix2 r l) = G l.val) (hφ hacc) :
    shapeCast S192x1 (multiReduction (F := Ideal) (φ := .f32) .maximumf [1] S192 x 0xFF800000#32 reduces_S192x128_S192 hφ hacc) shapeCasts_S192_S192x1
      (ix2 r (0 : Fin 1)) = (range 128).sup G := by
  refine (shapeCast_apply _ shapeCasts_S192_S192x1 (ix2 r (0 : Fin 1)) (ix1 r) ((rowMajor1 r).trans (by rw [rowMajor2]; simp))).trans ?_
  rw [Ideal.multiReduction_maximumf_single, neg_inf]
  refine fold_max_eq_sup (n := 128) _ G fun l => ?_
  rw [← h l]
  refine congrArg x (funext fun a => ?_)
  match a with
  | ⟨0, _⟩ => rfl
  | ⟨1, _⟩ => rfl

/-- A signed minimum over a set: at most the start and every entry, and one of them. -/
theorem fold_minsi {ι : Type} [DecidableEq ι] (b : BitVec 32) (f : ι → BitVec 32) (s : Finset ι) :
    (s.fold IntOp.minsi b f).toInt ≤ b.toInt ∧ (∀ i ∈ s, (s.fold IntOp.minsi b f).toInt ≤ (f i).toInt)
      ∧ (s.fold IntOp.minsi b f = b ∨ ∃ i ∈ s, s.fold IntOp.minsi b f = f i) := by
  induction s using Finset.induction_on with
  | empty => simp
  | insert a s ha ih =>
    obtain ⟨h1, h2, h3⟩ := ih
    rw [fold_insert ha]
    have hm : ∀ x y : BitVec 32, (IntOp.minsi x y = x ∧ x.toInt ≤ y.toInt) ∨ (IntOp.minsi x y = y ∧ y.toInt ≤ x.toInt) := fun x y => by
      unfold IntOp.minsi
      split_ifs with hc
      · exact Or.inl ⟨rfl, le_of_lt (by simpa [BitVec.slt] using hc)⟩
      · exact Or.inr ⟨rfl, not_lt.1 (by simpa [BitVec.slt] using hc)⟩
    rcases hm (f a) (s.fold IntOp.minsi b f) with ⟨e, hle⟩ | ⟨e, hle⟩
    · rw [e]
      refine ⟨hle.trans h1, fun i hi => ?_, Or.inr ⟨a, mem_insert_self _ _, rfl⟩⟩
      rcases mem_insert.1 hi with rfl | hi
      · exact le_rfl
      · exact hle.trans (h2 i hi)
    · rw [e]
      refine ⟨h1, fun i hi => ?_, ?_⟩
      · rcases mem_insert.1 hi with rfl | hi
        · exact hle
        · exact h2 i hi
      · rcases h3 with h3 | ⟨i, hi, h3⟩
        · exact Or.inl h3
        · exact Or.inr ⟨i, mem_insert_of_mem hi, h3⟩

/-- A small natural number's word, read signed. -/
theorem toInt_ofNat {n : ℕ} (h : n < 18944) : (BitVec.ofNat 32 n).toInt = n := by
  rw [BitVec.toInt_ofNat', Int.bmod_def]
  omega

section Row

variable {f : ℕ → EReal} {r : Fin 192} {s : St Ideal} {k : Fin 128 → ℕ}
  (hk : ∀ l : Fin 128, s.2.2 (ix2 r l) = BitVec.ofNat 32 (k l))
  (hb : ∀ l : Fin 128, LaneBest (fun t => f (128 * t + l.val)) 148 (s.1 (ix2 r l)) (s.2.1 (ix2 r l)) (k l))

include hb in
/-- The same lanes, by natural number. -/
theorem lanes_nat : ∀ l < 128, LaneBest (fun t => f (128 * t + l)) 148 (s.1 (ix2 r (Fin.ofNat 128 l))) (s.2.1 (ix2 r (Fin.ofNat 128 l)))
    (k (Fin.ofNat 128 l)) := fun l hl => by
  have := hb (Fin.ofNat 128 l)
  rwa [show (Fin.ofNat 128 l).val = l from Nat.mod_eq_of_lt hl] at this

theorem ofNat_val (l : Fin 128) : Fin.ofNat 128 l.val = l := Fin.ext (Nat.mod_eq_of_lt l.isLt)

/-- The lanes' greatest values, reduced. -/
theorem top_lanes : k0_pay5 s.1 (ix2 r (0 : Fin 1)) = (range 128).sup (fun l => s.1 (ix2 r (Fin.ofNat 128 l))) :=
  laneMax_apply s.1 r _ (fun l => by rw [ofNat_val]) _ _

theorem cols : 148 * 128 = 18944 := by norm_num

include hb in
/-- The greatest of the lanes' greatest values is the row's. -/
theorem sup_row : (range 128).sup (fun l => s.1 (ix2 r (Fin.ofNat 128 l))) = (range 18944).sup f := by
  have h := sup_lanes (lanes_nat hb) (by decide)
  rwa [cols] at h

include hb in
/-- The third result: the row's greatest logit. -/
theorem top_eq : k0_pay5 s.1 (ix2 r (0 : Fin 1)) = (range 18944).sup f :=
  top_lanes.trans (sup_row hb)

include hk in
/-- The vocabulary row each lane keeps. -/
theorem col_apply (l : Fin 128) : k0_pay4 (F := Ideal) s.2.2 (ix2 r l) = BitVec.ofNat 32 (128 * k l + l.val) := by
  show s.2.2 (ix2 r l) * 128#32 + iota .tc S192x128 32 [1] iota_S192x128_d1_w32 (ix2 r l) = _
  rw [hk, iota_single_apply]
  show BitVec.ofNat 32 (k l) * BitVec.ofNat 32 128 + BitVec.ofNat 32 l.val = _
  rw [← BitVec.ofNat_mul, ← BitVec.ofNat_add, Nat.mul_comm]

include hb in
theorem col_lt (l : Fin 128) : 128 * k l + l.val < 18944 := by
  have := (hb l).lt; have := l.isLt; omega

include hk hb in
/-- What the token's minimum is taken over: the kept vocabulary row of a lane whose greatest is the row's, else the greatest
    32-bit number. -/
theorem cand_apply (l : Fin 128) :
    select (cmpf (F := Ideal) (φ := .f32) .oeq s.1 (broadcastTo S192x128 (k0_pay5 s.1) broadcasts_S192x1_S192x128)) (k0_pay4 (F := Ideal) s.2.2)
        (broadcast S192x128 2147483647#32) (ix2 r l)
      = if s.1 (ix2 r l) = (range 18944).sup f then BitVec.ofNat 32 (128 * k l + l.val) else 2147483647#32 := by
  have e : broadcastTo S192x128 (k0_pay5 s.1) broadcasts_S192x1_S192x128 (ix2 r l) = (range 18944).sup f :=
    (broadcastTo_apply _ _ _ (ix2 r (0 : Fin 1)) (fun a => match a with
      | ⟨0, _⟩ => rfl
      | ⟨1, _⟩ => rfl)).trans (top_eq hb)
  show Scalar.select (BitVec.ofBool (decide (s.1 (ix2 r l) = broadcastTo S192x128 (k0_pay5 s.1) broadcasts_S192x1_S192x128 (ix2 r l))))
    (k0_pay4 (F := Ideal) s.2.2 (ix2 r l)) 2147483647#32 = _
  rw [e, col_apply hk]
  by_cases h : s.1 (ix2 r l) = (range 18944).sup f
  · rw [if_pos h, decide_eq_true h]; rfl
  · rw [if_neg h, decide_eq_false h]; rfl

include hk hb in
/-- The first result: the first vocabulary row attaining the greatest logit. -/
theorem tok_eq : ∃ c, IsFirstMax f 18944 c ∧ k0_pay6 (F := Ideal) s.2.2 s.1 (ix2 r (0 : Fin 1)) = BitVec.ofNat 32 c := by
  have e : k0_pay6 (F := Ideal) s.2.2 s.1 (ix2 r (0 : Fin 1)) = (univ : Finset (Fin 128)).fold IntOp.minsi 2147483647#32
      (fun l => if s.1 (ix2 r l) = (range 18944).sup f then BitVec.ofNat 32 (128 * k l + l.val) else 2147483647#32) := by
    unfold k0_pay6
    dsimp only
    refine (shapeCast_apply _ shapeCasts_S192_S192x1 (ix2 r (0 : Fin 1)) (ix1 r) ((rowMajor1 r).trans (by rw [rowMajor2]; simp))).trans ?_
    refine (multiReductionI_eq_fold .minsi _ _ reduces_S192x128_S192 rfl _).trans ?_
    refine (reduces_S192x128_S192.fold_filter_drop_single IntOp.minsi 2147483647#32 _ (ix1 r)).trans ?_
    refine Finset.fold_congr fun l _ => ?_
    rw [← cand_apply hk hb l]
    refine congrArg (select (cmpf (F := Ideal) (φ := .f32) .oeq s.1 (broadcastTo S192x128 (k0_pay5 s.1) broadcasts_S192x1_S192x128))
      (k0_pay4 (F := Ideal) s.2.2) (broadcast S192x128 2147483647#32)) (funext fun a => ?_)
    match a with
    | ⟨0, _⟩ => rfl
    | ⟨1, _⟩ => rfl
  rw [e]
  obtain ⟨-, h2, h3⟩ := fold_minsi 2147483647#32
    (fun l : Fin 128 => if s.1 (ix2 r l) = (range 18944).sup f then BitVec.ofNat 32 (128 * k l + l.val) else 2147483647#32) univ
  set z := (univ : Finset (Fin 128)).fold IntOp.minsi 2147483647#32
    (fun l : Fin 128 => if s.1 (ix2 r l) = (range 18944).sup f then BitVec.ofNat 32 (128 * k l + l.val) else 2147483647#32)
  -- at a lane that attains the row's greatest value the minimum is at most its vocabulary row
  have hle : ∀ l : Fin 128, s.1 (ix2 r l) = (range 18944).sup f → z.toInt ≤ (128 * k l + l.val : ℕ) := fun l hl => by
    have h := h2 l (mem_univ _)
    rw [if_pos hl, toInt_ofNat (col_lt hb l)] at h
    exact h
  -- there is such a lane
  obtain ⟨l0, hl0, hatt⟩ := exists_mem_eq_sup (range 128) ⟨0, mem_range.2 (by norm_num)⟩ (fun l => s.1 (ix2 r (Fin.ofNat 128 l)))
  rw [sup_row hb] at hatt
  have hz : z ≠ 2147483647#32 := fun h => by
    have h4 := hle _ hatt.symm
    have h5 := col_lt hb (Fin.ofNat 128 l0)
    rw [h, show (2147483647#32 : BitVec 32).toInt = 2147483647 by decide] at h4
    omega
  obtain ⟨l, -, hl⟩ := h3.resolve_left hz
  by_cases hm : s.1 (ix2 r l) = (range 18944).sup f
  · rw [if_pos hm] at hl
    refine ⟨128 * k l + l.val, ?_, hl⟩
    have h6 := first_lanes (lanes_nat hb) (by decide) l.isLt (by rw [ofNat_val, sup_row hb]; exact hm) (fun l' hl' hm' => by
      rw [sup_row hb] at hm'
      have h7 := hle _ hm'
      rw [hl, toInt_ofNat (col_lt hb l), show (Fin.ofNat 128 l').val = l' from Nat.mod_eq_of_lt hl'] at h7
      rw [ofNat_val]
      exact_mod_cast h7)
    rwa [cols, ofNat_val] at h6
  · rw [if_neg hm] at hl
    exact absurd hl hz

include hk hb in
/-- The second result: the greatest logit less the greatest of the others. -/
theorem margin_eq {c : ℕ} (hc : IsFirstMax f 18944 c) (htok : k0_pay6 (F := Ideal) s.2.2 s.1 (ix2 r (0 : Fin 1)) = BitVec.ofNat 32 c) :
    k0_pay7 (F := Ideal) s.2.2 s.1 s.2.1 (ix2 r (0 : Fin 1)) = (range 18944).sup f - ((range 18944).erase c).sup f := by
  have h := second_lanes (lanes_nat hb) (by decide) c
  rw [cols] at h
  rw [← h, ← top_eq hb]
  refine congrArg (k0_pay5 s.1 (ix2 r (0 : Fin 1)) - ·) (laneMax_apply _ r _ (fun l => ?_) _ _)
  have e : broadcastTo S192x128 (k0_pay6 (F := Ideal) s.2.2 s.1) broadcasts_S192x1_S192x128 (ix2 r l) = BitVec.ofNat 32 c :=
    (broadcastTo_apply _ _ _ (ix2 r (0 : Fin 1)) (fun a => match a with
      | ⟨0, _⟩ => rfl
      | ⟨1, _⟩ => rfl)).trans htok
  show Scalar.select (BitVec.ofBool (k0_pay4 (F := Ideal) s.2.2 (ix2 r l)
    == broadcastTo S192x128 (k0_pay6 (F := Ideal) s.2.2 s.1) broadcasts_S192x1_S192x128 (ix2 r l))) (s.2.1 (ix2 r l)) (s.1 (ix2 r l)) = _
  rw [e, col_apply hk, ofNat_val]
  have hiff : BitVec.ofNat 32 (128 * k l + l.val) = BitVec.ofNat 32 c ↔ 128 * k l + l.val = c := by
    refine ⟨fun h => ?_, fun h => by rw [h]⟩
    have h1 := toInt_ofNat (col_lt hb l)
    rw [h, toInt_ofNat hc.lt] at h1
    exact_mod_cast h1.symm
  by_cases h : 128 * k l + l.val = c
  · rw [if_pos h, beq_iff_eq.2 (hiff.2 h)]; rfl
  · rw [if_neg h, beq_eq_false_iff_ne.2 (fun h' => h (hiff.1 h'))]; rfl

end Row

/-- THE KERNEL'S RESULTS at row `r`: a first greatest vocabulary row `c` of the row's logits, the margin over the others and the
    greatest logit. -/
theorem results (m : (ℓ : Loc nD τ sig) → Buf (Elt Ideal) ℓ) (c : Dev nD) (r : Fin 192) :
    ∃ v, IsFirstMax (L m c r) 18944 v ∧ Value.G3 m c (ix2 r (0 : Fin 1)) = BitVec.ofNat 32 v
      ∧ Value.G4 m c (ix2 r (0 : Fin 1)) = (range 18944).sup (L m c r) - ((range 18944).erase v).sup (L m c r)
      ∧ Value.G5 m c (ix2 r (0 : Fin 1)) = (range 18944).sup (L m c r) := by
  choose k hk hb using last_good m c r
  obtain ⟨v, hv, ht⟩ := tok_eq hk hb
  refine ⟨v, hv, ?_, ?_, ?_⟩
  · rw [G3_eq]; exact ht
  · rw [G4_eq]; exact margin_eq hk hb hv ht
  · rw [G5_eq]; exact top_eq hb

end Cert.KernelIdeal.Results
-- ==== Proof.RefResults.lean ====
/-
  THE REFERENCE'S THREE RESULTS, at the ideal values, from its array of logits: the first greatest vocabulary row of each
  row, the margin over the other vocabulary rows, and the greatest logit.
-/
module

public import proofs.«01_k».proof.Proof.RefLogits
public import proofs.«01_k».proof.Proof.FirstMax
public import proofs.«01_k».proof.Proof.Results

@[expose] public section

noncomputable section

open Idealize.ShloMosaic Idealize.ShloMosaic.TcCoe Idealize.SL.Sem Idealize.ShloMosaic.ValueIdx

namespace Cert.ReferenceIdeal.Value

open Cert.ReferenceIdeal Cert.ReferenceIdeal.Gen Cert.ReferenceIdeal.Run Cert.Logits Cert.Top1 Finset
open Cert.KernelIdeal.Results (fold_max_eq_sup neg_inf toInt_ofNat)

variable {l : FVec Ideal S192x18944 .f32} {r : Fin 192} {f : ℕ → EReal} (h : ∀ v : Fin 18944, l (ix2 r v) = f v.val)

/-- A column read at a row is the array it was made of. -/
theorem column_apply {α : Type} (x : S192.Idx → α) (r : Fin 192) :
    shapeCast S192x1 x shapeCasts_S192_S192x1 (ix2 r (0 : Fin 1)) = x (ix1 r) :=
  shapeCast_apply x shapeCasts_S192_S192x1 (ix2 r (0 : Fin 1)) (ix1 r) ((rowMajor1 r).trans (by rw [rowMajor2]; simp))

include h in
/-- The greatest entry of row `r`. -/
theorem top_apply : top (F := Ideal) l (ix1 r) = (range 18944).sup f := by
  unfold top
  refine (Host.reduce_eq_fold_single (α := EReal) max l _ reducesTo_S192x18944_S192_d1 (by decide) h_S_ (ix1 r)).trans ?_
  rw [show (constant S_ .f32 0xFF800000#32 : FVec Ideal S_ .f32) (Shape.Idx.first h_S_) = (⊥ : EReal) from neg_inf]
  refine fold_max_eq_sup (n := 18944) _ f fun v => ?_
  rw [← h v]
  refine congrArg l (funext fun a => ?_)
  match a with
  | ⟨0, _⟩ => rfl
  | ⟨1, _⟩ => rfl

/-- A place of the array belongs to the row it lies in. -/
theorem drop_eq_iff (i : S192x18944.Idx) (r : Fin 192) :
    reducesTo_S192x18944_S192_d1.drop i = ix1 r ↔ i 0 = r := by
  have hv : (reducesTo_S192x18944_S192_d1.drop i 0).val = (i 0).val :=
    Shape.ReducesTo.drop_apply_val_of_eq reducesTo_S192x18944_S192_d1 i 0 0
  refine ⟨fun e => Fin.ext ?_, fun e => funext fun a => ?_⟩
  · rw [← hv, e]
  · match a with
    | ⟨0, _⟩ => exact Fin.ext (hv.trans (congrArg Fin.val e))

include h in
/-- The token of row `r`: the first vocabulary row at which the row is greatest. -/
theorem tok_apply : ∃ v, IsFirstMax f 18944 v ∧ tok (F := Ideal) l (ix1 r) = BitVec.ofNat 32 v := by
  unfold tok
  refine FirstMax.argReduce_row l _ _ _ reducesTo_S192x18944_S192_d1 h_S_ (ix1 r) f (by norm_num) (fun v hv => toInt_ofNat hv) neg_inf rfl
    fun q => ⟨?_, ?_⟩
  · rintro ⟨i, hi, rfl⟩
    have h0 : i = ix2 r (i 1) := funext fun a => match a with
      | ⟨0, _⟩ => (drop_eq_iff i r).1 hi
      | ⟨1, _⟩ => rfl
    exact ⟨(i 1).val, (i 1).isLt, Prod.ext ((congrArg l h0).trans (h (i 1))) rfl⟩
  · rintro ⟨v, hv, rfl⟩
    exact ⟨ix2 r (⟨v, hv⟩ : Fin 18944), (drop_eq_iff _ r).2 rfl, Prod.ext (h ⟨v, hv⟩).symm rfl⟩

include h in
/-- The entries of row `r` with the one at the token replaced by the bottom. -/
theorem masked_apply (t : IVec S192 32) {k : ℕ} (hk : k < 18944) (ht : t (ix1 r) = BitVec.ofNat 32 k) (v : Fin 18944) :
    masked (F := Ideal) t l (ix2 r v) = if v.val = k then ⊥ else f v.val := by
  have e : broadcastInDim S192x18944 ![0, 1] bcast_S192x1_S192x18944_0_1 (broadcastInDim S192x1 ![0] bcast_S192_S192x1_0 t) (ix2 r v)
      = BitVec.ofNat 32 k := by
    refine (broadcastInDim_apply _ bcast_S192x1_S192x18944_0_1 _ (ix2 r v) (ix2 r (0 : Fin 1)) (fun a => match a with
      | ⟨0, _⟩ => rfl
      | ⟨1, _⟩ => rfl)).trans ?_
    refine (broadcastInDim_apply _ bcast_S192_S192x1_0 t _ (ix1 r) (fun a => match a with
      | ⟨0, _⟩ => rfl)).trans ht
  show Scalar.select (BitVec.ofBool (BitVec.ofNat 32 v.val
    == broadcastInDim S192x18944 ![0, 1] bcast_S192x1_S192x18944_0_1 (broadcastInDim S192x1 ![0] bcast_S192_S192x1_0 t) (ix2 r v)))
      (FloatOps.ofBits (F := Ideal) .f32 0xFF800000#32) (l (ix2 r v)) = _
  rw [e, neg_inf, h v]
  have hiff : BitVec.ofNat 32 v.val = BitVec.ofNat 32 k ↔ v.val = k := by
    refine ⟨fun e => ?_, fun e => by rw [e]⟩
    have h1 := toInt_ofNat v.isLt
    rw [e, toInt_ofNat hk] at h1
    exact_mod_cast h1.symm
  by_cases hv : v.val = k
  · rw [if_pos hv, beq_iff_eq.2 (hiff.2 hv)]; rfl
  · rw [if_neg hv, beq_eq_false_iff_ne.2 (fun h' => hv (hiff.1 h'))]; rfl

/-- A bottom in place of one entry leaves the greatest of the others. -/
theorem sup_masked (f : ℕ → EReal) (n k : ℕ) :
    (range n).sup (fun v => if v = k then ⊥ else f v) = ((range n).erase k).sup f := by
  apply le_antisymm
  · refine Finset.sup_le fun v hv => ?_
    split_ifs with e
    · exact bot_le
    · exact le_sup (f := f) (mem_erase.2 ⟨e, hv⟩)
  · refine Finset.sup_le fun v hv => ?_
    obtain ⟨e, hv⟩ := mem_erase.1 hv
    have := le_sup (f := fun v => if v = k then ⊥ else f v) hv
    rwa [if_neg e] at this

/-- The three result columns, read at a row, for any logits. -/
theorem out0_apply (l : FVec Ideal S192x18944 .f32) (r : Fin 192) : out0 (F := Ideal) l (ix2 r (0 : Fin 1)) = tok (F := Ideal) l (ix1 r) := by
  unfold out0
  generalize tok (F := Ideal) l = t
  exact column_apply t r
@[inherit_doc out0_apply]
theorem out1_apply (l : FVec Ideal S192x18944 .f32) (r : Fin 192) :
    out1 (F := Ideal) l (ix2 r (0 : Fin 1)) = (top (F := Ideal) l (ix1 r) - top (F := Ideal) (masked (tok l) l) (ix1 r) : EReal) := by
  unfold out1
  generalize top (F := Ideal) (masked (tok l) l) = t
  generalize top (F := Ideal) l = u
  rw [column_apply]
  exact subf_apply u t (ix1 r)
@[inherit_doc out0_apply]
theorem out2_apply (l : FVec Ideal S192x18944 .f32) (r : Fin 192) : out2 (F := Ideal) l (ix2 r (0 : Fin 1)) = top (F := Ideal) l (ix1 r) := by
  unfold out2
  generalize top (F := Ideal) l = t
  exact column_apply t r

include h in
/-- The greatest entry of row `r` other than the one at the token. -/
theorem second_apply (t : IVec S192 32) {k : ℕ} (hk : k < 18944) (ht : t (ix1 r) = BitVec.ofNat 32 k) :
    top (F := Ideal) (masked t l) (ix1 r) = ((range 18944).erase k).sup f :=
  (top_apply (f := fun u => if u = k then ⊥ else f u) (masked_apply h t hk ht)).trans (sup_masked f 18944 k)

include h in
/-- THE REFERENCE'S RESULTS at row `r`: a first greatest vocabulary row `v` of the row's logits, the margin over the others
    and the greatest logit. -/
theorem results : ∃ v, IsFirstMax f 18944 v ∧ out0 (F := Ideal) l (ix2 r (0 : Fin 1)) = BitVec.ofNat 32 v
    ∧ out1 (F := Ideal) l (ix2 r (0 : Fin 1)) = (range 18944).sup f - ((range 18944).erase v).sup f
    ∧ out2 (F := Ideal) l (ix2 r (0 : Fin 1)) = (range 18944).sup f := by
  obtain ⟨v, hv, ht⟩ := tok_apply h
  have hs := second_apply h _ hv.lt ht
  have h1 := top_apply h
  refine ⟨v, hv, ?_, ?_, ?_⟩
  · rw [out0_apply]; exact ht
  · rw [out1_apply, hs, h1]
  · rw [out2_apply]; exact h1

end Cert.ReferenceIdeal.Value
-- ==== Proof.Equal.lean ====
/-
  KERNEL AND REFERENCE COMPUTE THE SAME: from memories that agree on the three arguments both give, row by row, the first
  greatest vocabulary row, the margin and the greatest logit of the same logits, and a row has one first greatest place only.
-/
module

public import proofs.«01_k».proof.Proof.RefResults

@[expose] public section

noncomputable section

open Idealize.ShloMosaic Idealize.ShloMosaic.TcCoe Idealize.SL.Sem Idealize.ShloMosaic.ValueIdx

namespace Cert.Equal

open Cert.Logits Cert.Top1 Finset

/-- A column is known from its rows. -/
theorem column_ext {α : Type} {x y : (⟨2, ![192, 1]⟩ : Shape).Idx → α} (h : ∀ r : Fin 192, x (ix2 r (0 : Fin 1)) = y (ix2 r (0 : Fin 1))) : x = y := by
  funext i
  have e : i = ix2 (i 0) (0 : Fin 1) := funext fun a => match a with
    | ⟨0, _⟩ => rfl
    | ⟨1, _⟩ => Subsingleton.elim (α := Fin 1) _ _
  rw [e]
  exact h (i 0)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))

include h0 h1 h2 in
/-- The reference's logits are those the kernel sees. -/
theorem logits_eq (r : Fin 192) (v : Fin 18944) :
    ReferenceIdeal.Run.memLogits m' c (ix2 r v) = KernelIdeal.Arrays.L m c r v.val := by
  unfold ReferenceIdeal.Run.memLogits
  rw [h0, h1, h2]
  exact ReferenceIdeal.Value.logits_apply _ _ _ r v

include h0 h1 h2 in
/-- The three results agree at every row. -/
theorem rows_eq (r : Fin 192) :
    ReferenceIdeal.Run.out0 (ReferenceIdeal.Run.memLogits m' c) (ix2 r (0 : Fin 1)) = KernelIdeal.Value.G3 m c (ix2 r (0 : Fin 1))
      ∧ ReferenceIdeal.Run.out1 (ReferenceIdeal.Run.memLogits m' c) (ix2 r (0 : Fin 1)) = KernelIdeal.Value.G4 m c (ix2 r (0 : Fin 1))
      ∧ ReferenceIdeal.Run.out2 (ReferenceIdeal.Run.memLogits m' c) (ix2 r (0 : Fin 1)) = KernelIdeal.Value.G5 m c (ix2 r (0 : Fin 1)) := by
  have hl := logits_eq m m' c h0 h1 h2 r
  generalize ReferenceIdeal.Run.memLogits m' c = l at hl ⊢
  obtain ⟨v, hv, k0, k1, k2⟩ := KernelIdeal.Results.results m c r
  obtain ⟨u, hu, e0, e1, e2⟩ := ReferenceIdeal.Value.results (f := KernelIdeal.Arrays.L m c r) hl
  obtain rfl := hv.unique hu
  exact ⟨e0.trans k0.symm, e1.trans k1.symm, e2.trans k2.symm⟩

include h0 h1 h2 in
/-- The tokens are the same array, -/
theorem out0_eq : ReferenceIdeal.Run.out0 (ReferenceIdeal.Run.memLogits m' c) = KernelIdeal.Value.G3 m c :=
  column_ext fun r => (rows_eq m m' c h0 h1 h2 r).1

include h0 h1 h2 in
/-- the margins -/
theorem out1_eq : ReferenceIdeal.Run.out1 (ReferenceIdeal.Run.memLogits m' c) = KernelIdeal.Value.G4 m c :=
  column_ext fun r => (rows_eq m m' c h0 h1 h2 r).2.1

include h0 h1 h2 in
/-- and the greatest logits too. -/
theorem out2_eq : ReferenceIdeal.Run.out2 (ReferenceIdeal.Run.memLogits m' c) = KernelIdeal.Value.G5 m c :=
  column_ext fun r => (rows_eq m m' c h0 h1 h2 r).2.2

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference's frame: its run read at the arguments; it declares no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Run.run (F := Ideal) m ρ)

/-- The value claim: the kernel's token, margin and greatest logit are the reference's. -/
theorem algebraic : Cert.algebraic_KernelIdeal_ReferenceIdeal := by
  intro m ρ m' ρ' _ hagree
  refine ⟨fun c => Cert.KernelIdeal.Value.G3 m c, fun c => Cert.KernelIdeal.Value.G4 m c, fun c => Cert.KernelIdeal.Value.G5 m c,
    Cert.KernelIdeal.Value.run (F := Ideal) m ρ, ?_⟩
  refine (θ_run Cert.ReferenceIdeal.defs _ _).mono (fun _ h c => ?_) (Cert.ReferenceIdeal.Run.run (F := Ideal) m' ρ')
  obtain ⟨a0, a1, a2⟩ := hagree c
  obtain ⟨r0, r1, r2, hk⟩ := h c
  exact ⟨r0.trans (Cert.Equal.out0_eq m m' c a0 a1 a2), r1.trans (Cert.Equal.out1_eq m m' c a0 a1 a2),
    r2.trans (Cert.Equal.out2_eq m m' c a0 a1 a2), hk⟩

/-- All five claims: the three frames, the ideal program being the kernel's own text, and the value claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
